-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v4_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x8192x1 : Shape := ⟨3, ![32, 8192, 1]⟩
abbrev S512x1 : Shape := ⟨2, ![512, 1]⟩
abbrev S512x128 : Shape := ⟨2, ![512, 128]⟩
abbrev S512 : Shape := ⟨1, ![512]⟩
abbrev S128x512 : Shape := ⟨2, ![128, 512]⟩
abbrev S1x512 : Shape := ⟨2, ![1, 512]⟩
abbrev S2x512 : Shape := ⟨2, ![2, 512]⟩
abbrev S32x8192 : Shape := ⟨2, ![32, 8192]⟩
abbrev S32x1024x8 : Shape := ⟨3, ![32, 1024, 8]⟩
abbrev S1024x32x8 : Shape := ⟨3, ![1024, 32, 8]⟩
abbrev S8192x32x128 : Shape := ⟨3, ![8192, 32, 128]⟩
abbrev S32x256 : Shape := ⟨2, ![32, 256]⟩
abbrev S64x32x8 : Shape := ⟨3, ![64, 32, 8]⟩
abbrev S512x32x128 : Shape := ⟨3, ![512, 32, 128]⟩
abbrev S32x128 : Shape := ⟨2, ![32, 128]⟩
abbrev S1x32x8 : Shape := ⟨3, ![1, 32, 8]⟩
abbrev S32x8 : Shape := ⟨2, ![32, 8]⟩
abbrev S32x1 : Shape := ⟨2, ![32, 1]⟩
abbrev S32x512 : Shape := ⟨2, ![32, 512]⟩
abbrev S1x32x128 : Shape := ⟨3, ![1, 32, 128]⟩
abbrev S32x8192x128 : Shape := ⟨3, ![32, 8192, 128]⟩

abbrev nBuf : Space → Nat
  | .hbm => 17
  | .vmem => 9
  | .smem => 0
  | _ => 0

abbrev bufTy : (tb : Table) → Fin (tcTables nBuf tb) → BufTy
  | .hbm, ⟨0, _⟩ => ⟨S32x8192x1, .f32⟩
  | .hbm, ⟨1, _⟩ => ⟨S512x1, .f32⟩
  | .hbm, ⟨2, _⟩ => ⟨S512x128, .f32⟩
  | .hbm, ⟨3, _⟩ => ⟨S512, .f32⟩
  | .hbm, ⟨4, _⟩ => ⟨S512, .f32⟩
  | .hbm, ⟨5, _⟩ => ⟨S128x512, .f32⟩
  | .hbm, ⟨6, _⟩ => ⟨S512, .f32⟩
  | .hbm, ⟨7, _⟩ => ⟨S512, .f32⟩
  | .hbm, ⟨8, _⟩ => ⟨S1x512, .f32⟩
  | .hbm, ⟨9, _⟩ => ⟨S1x512, .f32⟩
  | .hbm, ⟨10, _⟩ => ⟨S2x512, .f32⟩
  | .hbm, ⟨11, _⟩ => ⟨S32x8192, .f32⟩
  | .hbm, ⟨12, _⟩ => ⟨S32x1024x8, .f32⟩
  | .hbm, ⟨13, _⟩ => ⟨S1024x32x8, .f32⟩
  | .hbm, ⟨14, _⟩ => ⟨S8192x32x128, .f32⟩
  | .hbm, ⟨15, _⟩ => ⟨S32x256, .f32⟩
  | .hbm, ⟨16, _⟩ => ⟨S32x8192x128, .f32⟩
  | .local _ .vmem, ⟨0, _⟩ => ⟨S64x32x8, .f32⟩
  | .local _ .vmem, ⟨1, _⟩ => ⟨S64x32x8, .f32⟩
  | .local _ .vmem, ⟨2, _⟩ => ⟨S128x512, .f32⟩
  | .local _ .vmem, ⟨3, _⟩ => ⟨S2x512, .f32⟩
  | .local _ .vmem, ⟨4, _⟩ => ⟨S512x32x128, .f32⟩
  | .local _ .vmem, ⟨5, _⟩ => ⟨S512x32x128, .f32⟩
  | .local _ .vmem, ⟨6, _⟩ => ⟨S32x256, .f32⟩
  | .local _ .vmem, ⟨7, _⟩ => ⟨S32x128, .f32⟩
  | .local _ .vmem, ⟨8, _⟩ => ⟨S32x128, .f32⟩
  | _, _ => ⟨S32x8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_9 : BitVec 32 := 0#32
  let c64_i32 : BitVec 32 := 64#32
  let v11 : BitVec 32 := Scalar.addi c0_i32_9 c64_i32
  let c1_i32 : BitVec 32 := 1#32
  ⟨c0_i32_9, v11, c1_i32⟩
def k0_off1 (k0_t1 : Fin k0_t1_loop.trips) : Fin 3 → Nat :=
  let c0_i32_9 : BitVec 32 := 0#32
  let c1_i32 : BitVec 32 := 1#32
  let arg8 : BitVec 32 := Scf.iv c0_i32_9 c1_i32 k0_t1
  let v23 : Index := Scalar.indexCast arg8
  let c0_16 : Index := 0#32
  let c0_17 : Index := 0#32
  ![v23.toNat, 0, 0]
def k0_off2 (k0_t1 : Fin k0_t1_loop.trips) (c0_i32_29 : BitVec 32) : Fin 3 → Nat :=
  let c0_i32_9 : BitVec 32 := 0#32
  let c1_i32 : BitVec 32 := 1#32
  let arg8 : BitVec 32 := Scf.iv c0_i32_9 c1_i32 k0_t1
  let c8_i32 : BitVec 32 := 8#32
  let v22 : BitVec 32 := Scalar.muli arg8 c8_i32
  let v73 : BitVec 32 := Scalar.addi v22 c0_i32_29
  let v74 : Index := Scalar.indexCast v73
  let c0_30 : Index := 0#32
  let c0_31 : Index := 0#32
  ![v74.toNat, 0, 0]
def k0_cond2 (i : grid0.Coords) : BitVec 1 :=
  let arg0 : BitVec 32 := BitVec.ofNat 32 (i 0).val
  let c15_i32 : BitVec 32 := 15#32
  let v19 : BitVec 1 := Scalar.cmpi .eq arg0 c15_i32
  let v20 : BitVec 32 := Scalar.extui v19
  let c0_i32_15 : BitVec 32 := 0#32
  let v21 : BitVec 1 := Scalar.cmpi .ne v20 c0_i32_15
  v21

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x32x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S32x8192x1 : Shape := ⟨3, ![32, 8192, 1]⟩
abbrev S512x1 : Shape := ⟨2, ![512, 1]⟩
abbrev S512x128 : Shape := ⟨2, ![512, 128]⟩
abbrev S512 : Shape := ⟨1, ![512]⟩
abbrev S_ : Shape := ⟨0, ![]⟩
abbrev S32x256 : Shape := ⟨2, ![32, 256]⟩
abbrev S8192x32x1 : Shape := ⟨3, ![8192, 32, 1]⟩
abbrev S8192x32x256 : Shape := ⟨3, ![8192, 32, 256]⟩
abbrev S1x32x1 : Shape := ⟨3, ![1, 32, 1]⟩
abbrev S32x1 : Shape := ⟨2, ![32, 1]⟩
abbrev S32x128 : Shape := ⟨2, ![32, 128]⟩
abbrev S1x512 : Shape := ⟨2, ![1, 512]⟩
abbrev S32x512 : Shape := ⟨2, ![32, 512]⟩
abbrev S128x512 : Shape := ⟨2, ![128, 512]⟩
abbrev S1x32x256 : Shape := ⟨3, ![1, 32, 256]⟩
abbrev S32x8192x256 : Shape := ⟨3, ![32, 8192, 256]⟩
abbrev S32x8192x128 : Shape := ⟨3, ![32, 8192, 128]⟩

abbrev nBuf : Space → Nat
  | .hbm => 84
  | .vmem => 0
  | .smem => 0
  | _ => 0

abbrev bufTy : (tb : Table) → Fin (tcTables nBuf tb) → BufTy
  | .hbm, ⟨0, _⟩ => ⟨S32x8192x1, .f32⟩
  | .hbm, ⟨1, _⟩ => ⟨S512x1, .f32⟩
  | .hbm, ⟨2, _⟩ => ⟨S512x128, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S_, .f32⟩
  | .hbm, ⟨7, _⟩ => ⟨S32x256, .f32⟩
  | .hbm, ⟨8, _⟩ => ⟨S8192x32x1, .f32⟩
  | .hbm, ⟨9, _⟩ => ⟨S_, .f32⟩
  | .hbm, ⟨10, _⟩ => ⟨S_, .f32⟩
  | .hbm, ⟨11, _⟩ => ⟨S8192x32x256, .f32⟩
  | .hbm, ⟨12, _⟩ => ⟨S_, .i32⟩
  | .hbm, ⟨13, _⟩ => ⟨S8192x32x1, .f32⟩
  | .hbm, ⟨14, _⟩ => ⟨S512x1, .f32⟩
  | .hbm, ⟨15, _⟩ => ⟨S512x128, .f32⟩
  | .hbm, ⟨16, _⟩ => ⟨S512, .f32⟩
  | .hbm, ⟨17, _⟩ => ⟨S_, .f32⟩
  | .hbm, ⟨18, _⟩ => ⟨S_, .i32⟩
  | .hbm, ⟨19, _⟩ => ⟨S32x256, .f32⟩
  | .hbm, ⟨20, _⟩ => ⟨S8192x32x256, .f32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S1x32x1, .f32⟩
  | .hbm, ⟨26, _⟩ => ⟨S32x1, .f32⟩
  | .hbm, ⟨27, _⟩ => ⟨S32x128, .f32⟩
  | .hbm, ⟨28, _⟩ => ⟨S32x128, .f32⟩
  | .hbm, ⟨29, _⟩ => ⟨S1x512, .f32⟩
  | .hbm, ⟨30, _⟩ => ⟨S32x512, .f32⟩
  | .hbm, ⟨31, _⟩ => ⟨S128x512, .f32⟩
  | .hbm, ⟨32, _⟩ => ⟨S32x512, .f32⟩
  | .hbm, ⟨33, _⟩ => ⟨S32x512, .f32⟩
  | .hbm, ⟨34, _⟩ => ⟨S1x512, .f32⟩
  | .hbm, ⟨35, _⟩ => ⟨S32x512, .f32⟩
  | .hbm, ⟨36, _⟩ => ⟨S32x512, .f32⟩
  | .hbm, ⟨37, _⟩ => ⟨S32x128, .f32⟩
  | .hbm, ⟨38, _⟩ => ⟨S32x128, .f32⟩
  | .hbm, ⟨39, _⟩ => ⟨S32x128, .f32⟩
  | .hbm, ⟨40, _⟩ => ⟨S32x128, .f32⟩
  | .hbm, ⟨41, _⟩ => ⟨S32x128, .f32⟩
  | .hbm, ⟨42, _⟩ => ⟨S32x128, .f32⟩
  | .hbm, ⟨43, _⟩ => ⟨S_, .f32⟩
  | .hbm, ⟨44, _⟩ => ⟨S32x128, .f32⟩
  | .hbm, ⟨45, _⟩ => ⟨S32x128, .f32⟩
  | .hbm, ⟨46, _⟩ => ⟨S_, .f32⟩
  | .hbm, ⟨47, _⟩ => ⟨S32x128, .f32⟩
  | .hbm, ⟨48, _⟩ => ⟨S32x128, .f32⟩
  | .hbm, ⟨49, _⟩ => ⟨S32x128, .f32⟩
  | .hbm, ⟨50, _⟩ => ⟨S32x128, .f32⟩
  | .hbm, ⟨51, _⟩ => ⟨S_, .f32⟩
  | .hbm, ⟨52, _⟩ => ⟨S32x128, .f32⟩
  | .hbm, ⟨53, _⟩ => ⟨S32x128, .f32⟩
  | .hbm, ⟨54, _⟩ => ⟨S_, .f32⟩
  | .hbm, ⟨55, _⟩ => ⟨S32x128, .f32⟩
  | .hbm, ⟨56, _⟩ => ⟨S32x128, .f32⟩
  | .hbm, ⟨57, _⟩ => ⟨S32x128, .f32⟩
  | .hbm, ⟨58, _⟩ => ⟨S32x128, .f32⟩
  | .hbm, ⟨59, _⟩ => ⟨S32x128, .f32⟩
  | .hbm, ⟨60, _⟩ => ⟨S_, .f32⟩
  | .hbm, ⟨61, _⟩ => ⟨S32x128, .f32⟩
  | .hbm, ⟨62, _⟩ => ⟨S32x128, .f32⟩
  | .hbm, ⟨63, _⟩ => ⟨S_, .f32⟩
  | .hbm, ⟨64, _⟩ => ⟨S32x128, .f32⟩
  | .hbm, ⟨65, _⟩ => ⟨S32x128, .f32⟩
  | .hbm, ⟨66, _⟩ => ⟨S32x128, .f32⟩
  | .hbm, ⟨67, _⟩ => ⟨S32x128, .f32⟩
  | .hbm, ⟨68, _⟩ => ⟨S32x128, .f32⟩
  | .hbm, ⟨69, _⟩ => ⟨S32x128, .f32⟩
  | .hbm, ⟨70, _⟩ => ⟨S32x128, .f32⟩
  | .hbm, ⟨71, _⟩ => ⟨S32x256, .f32⟩
  | .hbm, ⟨72, _⟩ => ⟨S32x256, .f32⟩
  | .hbm, ⟨73, _⟩ => ⟨S32x256, .f32⟩
  | .hbm, ⟨74, _⟩ => ⟨S32x256, .f32⟩
  | .hbm, ⟨75, _⟩ => ⟨S32x256, .f32⟩
  | .hbm, ⟨76, _⟩ => ⟨S1x32x256, .f32⟩
  | .hbm, ⟨77, _⟩ => ⟨S_, .i32⟩
  | .hbm, ⟨78, _⟩ => ⟨S_, .i32⟩
  | .hbm, ⟨79, _⟩ => ⟨S8192x32x256, .f32⟩
  | .hbm, ⟨80, _⟩ => ⟨S_, .i32⟩
  | .hbm, ⟨81, _⟩ => ⟨S_, .i32⟩
  | .hbm, ⟨82, _⟩ => ⟨S32x8192x256, .f32⟩
  | .hbm, ⟨83, _⟩ => ⟨S32x8192x128, .f32⟩
  | _, _ => ⟨S32x8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_cst_1 : Ref sig .tc := ⟨.hbm, 10, rfl⟩
abbrev main_v3 : Ref sig .tc := ⟨.hbm, 11, rfl⟩
abbrev main_c : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev main_v4_5 : Ref sig .tc := ⟨.hbm, 18, rfl⟩
abbrev main_v4_6 : Ref sig .tc := ⟨.hbm, 19, rfl⟩
abbrev main_v4_7 : Ref sig .tc := ⟨.hbm, 20, rfl⟩
abbrev main_while0c_c_9 : Ref sig .tc := ⟨.hbm, 21, rfl⟩
abbrev main_while0c_v7 : Ref sig .tc := ⟨.hbm, 22, rfl⟩
abbrev main_while0b_call0_c : Ref sig .tc := ⟨.hbm, 23, rfl⟩
abbrev main_while0b_call0_c_0 : Ref sig .tc := ⟨.hbm, 24, rfl⟩
abbrev main_while0b_call0_v0 : Ref sig .tc := ⟨.hbm, 25, rfl⟩
abbrev main_while0b_v7 : Ref sig .tc := ⟨.hbm, 26, rfl⟩
abbrev main_while0b_v8 : Ref sig .tc := ⟨.hbm, 27, rfl⟩
abbrev main_while0b_v9 : Ref sig .tc := ⟨.hbm, 28, rfl⟩
abbrev main_while0b_v10 : Ref sig .tc := ⟨.hbm, 29, rfl⟩
abbrev main_while0b_v11 : Ref sig .tc := ⟨.hbm, 30, rfl⟩
abbrev main_while0b_v12 : Ref sig .tc := ⟨.hbm, 31, rfl⟩
abbrev main_while0b_v13 : Ref sig .tc := ⟨.hbm, 32, rfl⟩
abbrev main_while0b_v14 : Ref sig .tc := ⟨.hbm, 33, rfl⟩
abbrev main_while0b_v15 : Ref sig .tc := ⟨.hbm, 34, rfl⟩
abbrev main_while0b_v16 : Ref sig .tc := ⟨.hbm, 35, rfl⟩
abbrev main_while0b_v17 : Ref sig .tc := ⟨.hbm, 36, rfl⟩
abbrev main_while0b_v18 : Ref sig .tc := ⟨.hbm, 37, rfl⟩
abbrev main_while0b_v19 : Ref sig .tc := ⟨.hbm, 38, rfl⟩
abbrev main_while0b_v20 : Ref sig .tc := ⟨.hbm, 39, rfl⟩
abbrev main_while0b_v21 : Ref sig .tc := ⟨.hbm, 40, rfl⟩
abbrev main_while0b_v22 : Ref sig .tc := ⟨.hbm, 41, rfl⟩
abbrev main_while0b_v23 : Ref sig .tc := ⟨.hbm, 42, rfl⟩
abbrev main_while0b_cst_9 : Ref sig .tc := ⟨.hbm, 43, rfl⟩
abbrev main_while0b_v24 : Ref sig .tc := ⟨.hbm, 44, rfl⟩
abbrev main_while0b_v25 : Ref sig .tc := ⟨.hbm, 45, rfl⟩
abbrev main_while0b_cst_10 : Ref sig .tc := ⟨.hbm, 46, rfl⟩
abbrev main_while0b_v26 : Ref sig .tc := ⟨.hbm, 47, rfl⟩
abbrev main_while0b_v27 : Ref sig .tc := ⟨.hbm, 48, rfl⟩
abbrev main_while0b_v28 : Ref sig .tc := ⟨.hbm, 49, rfl⟩
abbrev main_while0b_v29 : Ref sig .tc := ⟨.hbm, 50, rfl⟩
abbrev main_while0b_cst_11 : Ref sig .tc := ⟨.hbm, 51, rfl⟩
abbrev main_while0b_v30 : Ref sig .tc := ⟨.hbm, 52, rfl⟩
abbrev main_while0b_v31 : Ref sig .tc := ⟨.hbm, 53, rfl⟩
abbrev main_while0b_cst_12 : Ref sig .tc := ⟨.hbm, 54, rfl⟩
abbrev main_while0b_v32 : Ref sig .tc := ⟨.hbm, 55, rfl⟩
abbrev main_while0b_v33 : Ref sig .tc := ⟨.hbm, 56, rfl⟩
abbrev main_while0b_v34 : Ref sig .tc := ⟨.hbm, 57, rfl⟩
abbrev main_while0b_v35 : Ref sig .tc := ⟨.hbm, 58, rfl⟩
abbrev main_while0b_v36 : Ref sig .tc := ⟨.hbm, 59, rfl⟩
abbrev main_while0b_cst_13 : Ref sig .tc := ⟨.hbm, 60, rfl⟩
abbrev main_while0b_v37 : Ref sig .tc := ⟨.hbm, 61, rfl⟩
abbrev main_while0b_v38 : Ref sig .tc := ⟨.hbm, 62, rfl⟩
abbrev main_while0b_cst_14 : Ref sig .tc := ⟨.hbm, 63, rfl⟩
abbrev main_while0b_v39 : Ref sig .tc := ⟨.hbm, 64, rfl⟩
abbrev main_while0b_v40 : Ref sig .tc := ⟨.hbm, 65, rfl⟩
abbrev main_while0b_v41 : Ref sig .tc := ⟨.hbm, 66, rfl⟩
abbrev main_while0b_v42 : Ref sig .tc := ⟨.hbm, 67, rfl⟩
abbrev main_while0b_v43 : Ref sig .tc := ⟨.hbm, 68, rfl⟩
abbrev main_while0b_v44 : Ref sig .tc := ⟨.hbm, 69, rfl⟩
abbrev main_while0b_v45 : Ref sig .tc := ⟨.hbm, 70, rfl⟩
abbrev main_while0b_v46 : Ref sig .tc := ⟨.hbm, 71, rfl⟩
abbrev main_while0b_v47 : Ref sig .tc := ⟨.hbm, 72, rfl⟩
abbrev main_while0b_v48 : Ref sig .tc := ⟨.hbm, 73, rfl⟩
abbrev main_while0b_v49 : Ref sig .tc := ⟨.hbm, 74, rfl⟩
abbrev main_while0b_v50 : Ref sig .tc := ⟨.hbm, 75, rfl⟩
abbrev main_while0b_call1_v0 : Ref sig .tc := ⟨.hbm, 76, rfl⟩
abbrev main_while0b_call1_c : Ref sig .tc := ⟨.hbm, 77, rfl⟩
abbrev main_while0b_call1_c_0 : Ref sig .tc := ⟨.hbm, 78, rfl⟩
abbrev main_while0b_v51 : Ref sig .tc := ⟨.hbm, 79, rfl⟩
abbrev main_while0b_c_15 : Ref sig .tc := ⟨.hbm, 80, rfl⟩
abbrev main_while0b_v52 : Ref sig .tc := ⟨.hbm, 81, rfl⟩
abbrev main_v5 : Ref sig .tc := ⟨.hbm, 82, rfl⟩
abbrev main_v6 : Ref sig .tc := ⟨.hbm, 83, rfl⟩

abbrev nD : Nat := 1
abbrev τ : Topo := Topo.v7x

variable {F : FTy → Type} [FloatOps F]

abbrev main_while0_count : Scf.Loop 32 := ⟨0#32, 8192#32, 1#32⟩
-- ==== Proof.Trip.lean ====
/- One trip of the kernel's counted loop as eight steps of one recurrent cell. -/
module

public import proofs.«01_k».proof.Proof.Gen.KernelIdeal.Loops

@[expose] public section

set_option maxRecDepth 16384

noncomputable section

namespace Cert.KernelIdeal.Lstm

open Idealize.ShloMosaic Idealize.ShloMosaic.TcCoe
open Idealize.SL Idealize.SL.Sem
open Cert.KernelIdeal Cert.KernelIdeal.Gen

variable {F : FTy → Type} [FloatOps F]

/-- The constant one half at every index of the state's shape. -/
def half : FVec F S32x128 .f32 := broadcast S32x128 (Scalar.ofBits .f32 0x3F000000#32)

/-- The four gates before their activations, side by side: the state through the recurrent weights, plus the
    step's input column through the input weights and the bias. -/
def gates (W : FVec F S128x512 .f32) (wr bs : FVec F S1x512 .f32) (xc : FVec F S32x1 .f32) (h : FVec F S32x128 .f32) :
    FVec F S32x512 .f32 :=
  addf (matmul dot_S32x128_S128x512_S32x512_1_0_0_1_n_n none h W (constant S32x512 .f32 0x00000000#32))
    (addf (mulf (broadcastTo S32x512 xc broadcasts_S32x1_S32x512) (broadcastTo S32x512 wr broadcasts_S1x512_S32x512))
      (broadcastTo S32x512 bs broadcasts_S1x512_S32x512))

/-- The kernel's sigmoid, by the hyperbolic tangent of half the argument. -/
def sigm (x : FVec F S32x128 .f32) : FVec F S32x128 .f32 := addf (mulf half (tanh (mulf half x))) half

/-- The cell's proposed memory, of the gates and the memory before. -/
def cNew (g : FVec F S32x512 .f32) (c : FVec F S32x128 .f32) : FVec F S32x128 .f32 :=
  addf (mulf (sigm (extractStridedSlice S32x128 ![0, 128] g slices_S32x512_o0_128_S32x128)) c)
    (mulf (sigm (extractStridedSlice S32x128 ![0, 0] g slices_S32x512_o0_0_S32x128))
      (tanh (extractStridedSlice S32x128 ![0, 256] g slices_S32x512_o0_256_S32x128)))

/-- The cell's proposed output, of the gates and the memory before. -/
def hNew (g : FVec F S32x512 .f32) (c : FVec F S32x128 .f32) : FVec F S32x128 .f32 :=
  mulf (sigm (extractStridedSlice S32x128 ![0, 384] g slices_S32x512_o0_384_S32x128)) (tanh (cNew g c))

/-- One step: the state moves half way to the cell's proposal. -/
def cell (W : FVec F S128x512 .f32) (wr bs : FVec F S1x512 .f32) (xc : FVec F S32x1 .f32)
    (s : FVec F S32x128 .f32 × FVec F S32x128 .f32) : FVec F S32x128 .f32 × FVec F S32x128 .f32 :=
  (mulf half (addf s.1 (hNew (gates W wr bs xc s.1) s.2)), mulf half (addf s.2 (cNew (gates W wr bs xc s.1) s.2)))

/-- The eight one-column slices a group's inputs are cut into lie inside the group. -/
theorem col_slices : ∀ u : Fin 8, S32x8.Slices ![0, u.val] S32x1 := by decide

/-- Column `u` of a group of eight steps' inputs. -/
def col (x : FVec F S32x8 .f32) (u : Fin 8) : FVec F S32x1 .f32 := extractStridedSlice S32x1 ![0, u.val] x (col_slices u)

/-- The state after the first `u` steps of a group, from the state before it. -/
def run8 (W : FVec F S128x512 .f32) (wr bs : FVec F S1x512 .f32) (x : FVec F S32x8 .f32)
    (s : FVec F S32x128 .f32 × FVec F S32x128 .f32) : ℕ → FVec F S32x128 .f32 × FVec F S32x128 .f32
  | 0 => s
  | u + 1 => cell W wr bs (col x ⟨u % 8, Nat.mod_lt _ (by decide)⟩) (run8 W wr bs x s u)

section
variable (arg1 : Memref sig .tc .vmem S64x32x8 .f32) (v3 : Vec F S128x512 .f32) (v5 v7 : Vec F S1x512 .f32)
  (X : BufTy.Contents (Elt F) arg1.view.ty) (k : Fin k0_t1_loop.trips) (acc : Vec F S32x128 .f32 × Vec F S32x128 .f32)

/-- The inputs of group `k`, as the trip loads them. -/
abbrev group : FVec F S32x8 .f32 := trip_k0_t1.sl.r arg1 X k

theorem step1 : (trip_k0_t1.sl.r_3 arg1 v3 v5 v7 X k acc, trip_k0_t1.sl.r_4 arg1 v3 v5 v7 X k acc)
    = cell (k0_pay3 v3) (k0_pay4 v5) (k0_pay5 v7) (col (group arg1 X k) 0) acc := by
  rfl

theorem step2 : (trip_k0_t1.sl.r_8 arg1 v3 v5 v7 X k acc, trip_k0_t1.sl.r_9 arg1 v3 v5 v7 X k acc)
    = cell (k0_pay3 v3) (k0_pay4 v5) (k0_pay5 v7) (col (group arg1 X k) 1) (trip_k0_t1.sl.r_3 arg1 v3 v5 v7 X k acc, trip_k0_t1.sl.r_4 arg1 v3 v5 v7 X k acc) := by
  rfl

theorem step3 : (trip_k0_t1.sl.r_14 arg1 v3 v5 v7 X k acc, trip_k0_t1.sl.r_15 arg1 v3 v5 v7 X k acc)
    = cell (k0_pay3 v3) (k0_pay4 v5) (k0_pay5 v7) (col (group arg1 X k) 2) (trip_k0_t1.sl.r_8 arg1 v3 v5 v7 X k acc, trip_k0_t1.sl.r_9 arg1 v3 v5 v7 X k acc) := by
  rfl

theorem step4 : (trip_k0_t1.sl.r_20 arg1 v3 v5 v7 X k acc, trip_k0_t1.sl.r_21 arg1 v3 v5 v7 X k acc)
    = cell (k0_pay3 v3) (k0_pay4 v5) (k0_pay5 v7) (col (group arg1 X k) 3) (trip_k0_t1.sl.r_14 arg1 v3 v5 v7 X k acc, trip_k0_t1.sl.r_15 arg1 v3 v5 v7 X k acc) := by
  rfl

theorem step5 : (trip_k0_t1.sl.r_25 arg1 v3 v5 v7 X k acc, trip_k0_t1.sl.r_26 arg1 v3 v5 v7 X k acc)
    = cell (k0_pay3 v3) (k0_pay4 v5) (k0_pay5 v7) (col (group arg1 X k) 4) (trip_k0_t1.sl.r_20 arg1 v3 v5 v7 X k acc, trip_k0_t1.sl.r_21 arg1 v3 v5 v7 X k acc) := by
  rfl

theorem step6 : (trip_k0_t1.sl.r_30 arg1 v3 v5 v7 X k acc, trip_k0_t1.sl.r_31 arg1 v3 v5 v7 X k acc)
    = cell (k0_pay3 v3) (k0_pay4 v5) (k0_pay5 v7) (col (group arg1 X k) 5) (trip_k0_t1.sl.r_25 arg1 v3 v5 v7 X k acc, trip_k0_t1.sl.r_26 arg1 v3 v5 v7 X k acc) := by
  rfl

theorem step7 : (trip_k0_t1.sl.r_35 arg1 v3 v5 v7 X k acc, trip_k0_t1.sl.r_36 arg1 v3 v5 v7 X k acc)
    = cell (k0_pay3 v3) (k0_pay4 v5) (k0_pay5 v7) (col (group arg1 X k) 6) (trip_k0_t1.sl.r_30 arg1 v3 v5 v7 X k acc, trip_k0_t1.sl.r_31 arg1 v3 v5 v7 X k acc) := by
  rfl

/-- The state after `u` steps of group `k`, from the state `acc` before the group. -/
abbrev after8 (u : ℕ) : FVec F S32x128 .f32 × FVec F S32x128 .f32 :=
  run8 (k0_pay3 v3) (k0_pay4 v5) (k0_pay5 v7) (group arg1 X k) acc u

theorem after8_one : after8 arg1 v3 v5 v7 X k acc 1 = (trip_k0_t1.sl.r_3 arg1 v3 v5 v7 X k acc, trip_k0_t1.sl.r_4 arg1 v3 v5 v7 X k acc) :=
  (step1 arg1 v3 v5 v7 X k acc).symm

theorem after8_two : after8 arg1 v3 v5 v7 X k acc 2 = (trip_k0_t1.sl.r_8 arg1 v3 v5 v7 X k acc, trip_k0_t1.sl.r_9 arg1 v3 v5 v7 X k acc) :=
  (congrArg (cell _ _ _ (col (group arg1 X k) 1)) (after8_one arg1 v3 v5 v7 X k acc)).trans (step2 arg1 v3 v5 v7 X k acc).symm

theorem after8_three : after8 arg1 v3 v5 v7 X k acc 3 = (trip_k0_t1.sl.r_14 arg1 v3 v5 v7 X k acc, trip_k0_t1.sl.r_15 arg1 v3 v5 v7 X k acc) :=
  (congrArg (cell _ _ _ (col (group arg1 X k) 2)) (after8_two arg1 v3 v5 v7 X k acc)).trans (step3 arg1 v3 v5 v7 X k acc).symm

theorem after8_four : after8 arg1 v3 v5 v7 X k acc 4 = (trip_k0_t1.sl.r_20 arg1 v3 v5 v7 X k acc, trip_k0_t1.sl.r_21 arg1 v3 v5 v7 X k acc) :=
  (congrArg (cell _ _ _ (col (group arg1 X k) 3)) (after8_three arg1 v3 v5 v7 X k acc)).trans (step4 arg1 v3 v5 v7 X k acc).symm

theorem after8_five : after8 arg1 v3 v5 v7 X k acc 5 = (trip_k0_t1.sl.r_25 arg1 v3 v5 v7 X k acc, trip_k0_t1.sl.r_26 arg1 v3 v5 v7 X k acc) :=
  (congrArg (cell _ _ _ (col (group arg1 X k) 4)) (after8_four arg1 v3 v5 v7 X k acc)).trans (step5 arg1 v3 v5 v7 X k acc).symm

theorem after8_six : after8 arg1 v3 v5 v7 X k acc 6 = (trip_k0_t1.sl.r_30 arg1 v3 v5 v7 X k acc, trip_k0_t1.sl.r_31 arg1 v3 v5 v7 X k acc) :=
  (congrArg (cell _ _ _ (col (group arg1 X k) 5)) (after8_five arg1 v3 v5 v7 X k acc)).trans (step6 arg1 v3 v5 v7 X k acc).symm

theorem after8_seven : after8 arg1 v3 v5 v7 X k acc 7 = (trip_k0_t1.sl.r_35 arg1 v3 v5 v7 X k acc, trip_k0_t1.sl.r_36 arg1 v3 v5 v7 X k acc) :=
  (congrArg (cell _ _ _ (col (group arg1 X k) 6)) (after8_six arg1 v3 v5 v7 X k acc)).trans (step7 arg1 v3 v5 v7 X k acc).symm

variable (𝒱 : Variants) (c : Dev nD) (bd : Option 𝒱.V) (i : grid0.Coords) (harg1 : arg1.IsWhole) (arg2 : Memref sig .tc .vmem S128x512 .f32) (harg2 : arg2.IsWhole)
  (arg3 : Memref sig .tc .vmem S2x512 .f32) (harg3 : arg3.IsWhole) (arg4 : Memref sig .tc .vmem S512x32x128 .f32) (harg4 : arg4.IsWhole)
  (arg5 : Memref sig .tc .vmem S32x256 .f32) (harg5 : arg5.IsWhole) (arg6 : Memref sig .tc .vmem S32x128 .f32) (harg6 : arg6.IsWhole)
  (arg7 : Memref sig .tc .vmem S32x128 .f32) (harg7 : arg7.IsWhole)

/-- A trip yields the state after its eight steps. -/
theorem tripR_eq : tripR_k0_t1 𝒱 c bd i arg1 harg1 arg2 harg2 arg3 harg3 arg4 harg4 arg5 harg5 arg6 harg6 arg7 harg7 v3 v5 v7 X k acc
    = after8 arg1 v3 v5 v7 X k acc 8 := by
  refine Eq.trans ?_ (congrArg (cell _ _ _ (col (group arg1 X k) 7)) (after8_seven arg1 v3 v5 v7 X k acc)).symm
  unfold tripR_k0_t1 trip_k0_t1
  rfl

/-- The store of one step's output as its row of the block. -/
def rowPiece (u : Fin 8) (s : FVec F S32x128 .f32 × FVec F S32x128 .f32) : View.Piece (Elt F) S512x32x128 .f32 :=
  ⟨Rect.unit (k0_off2 k (BitVec.ofNat 32 u.val)) S1x32x128.size (k0_off2_inb k u), shapeCast S1x32x128 s.1 shapeCasts_S32x128_S1x32x128⟩

/-- A trip's stores: each step's output at its row, the last step first. -/
theorem tripL_eq : tripL_k0_t1 𝒱 c bd i arg1 harg1 arg2 harg2 arg3 harg3 arg4 harg4 arg5 harg5 arg6 harg6 arg7 harg7 v3 v5 v7 X k acc
    = ([7, 6, 5, 4, 3, 2, 1, 0] : List (Fin 8)).map fun u => rowPiece k u (after8 arg1 v3 v5 v7 X k acc (u.val + 1)) := by
  have h8 := tripR_eq arg1 v3 v5 v7 X k acc 𝒱 c bd i harg1 arg2 harg2 arg3 harg3 arg4 harg4 arg5 harg5 arg6 harg6 arg7 harg7
  show _ = [rowPiece k 7 (after8 arg1 v3 v5 v7 X k acc 8), rowPiece k 6 (after8 arg1 v3 v5 v7 X k acc 7), rowPiece k 5 (after8 arg1 v3 v5 v7 X k acc 6), rowPiece k 4 (after8 arg1 v3 v5 v7 X k acc 5),
    rowPiece k 3 (after8 arg1 v3 v5 v7 X k acc 4), rowPiece k 2 (after8 arg1 v3 v5 v7 X k acc 3), rowPiece k 1 (after8 arg1 v3 v5 v7 X k acc 2), rowPiece k 0 (after8 arg1 v3 v5 v7 X k acc 1)]
  rw [← h8, after8_one, after8_two, after8_three, after8_four, after8_five, after8_six, after8_seven]
  unfold tripL_k0_t1 tripR_k0_t1 trip_k0_t1
  rfl

end

end Cert.KernelIdeal.Lstm

end
-- ==== Proof.Block.lean ====
/- One grid point's loop: 64 groups of eight steps as 512 steps of the cell, and the block of outputs it stores. -/
module

public import proofs.«01_k».proof.Proof.Trip
public import Idealize.ShloMosaic.Lib.ValueIdxCore
public import Idealize.ShloMosaic.Lib.Writes
public import Idealize.ShloMosaic.Lib.Pipeline.Value
public import Idealize.ShloMosaic.Lib.WordCmp

@[expose] public section

set_option maxRecDepth 16384

noncomputable section

namespace Cert.KernelIdeal.Lstm

open Idealize.ShloMosaic Idealize.ShloMosaic.TcCoe Idealize.ShloMosaic.ValueIdx
open Idealize.SL Idealize.SL.Sem
open Cert.KernelIdeal Cert.KernelIdeal.Gen

variable {F : FTy → Type} [FloatOps F]

/-- The inputs of a block's step `n`, one per batch row: group `n / 8`, column `n % 8`. -/
def xcol (xb : Vec F S64x32x8 .f32) (n : ℕ) : FVec F S32x1 .f32 := fun j =>
  xb (ix3 (n0 := 64) (n1 := 32) (n2 := 8) ⟨n / 8 % 64, Nat.mod_lt _ (by decide)⟩ (j 0) ⟨n % 8, Nat.mod_lt _ (by decide)⟩)

/-- The state after a block's first `n` steps, from the state before the block. -/
def blockState (W : FVec F S128x512 .f32) (wr bs : FVec F S1x512 .f32) (xb : Vec F S64x32x8 .f32)
    (s : FVec F S32x128 .f32 × FVec F S32x128 .f32) : ℕ → FVec F S32x128 .f32 × FVec F S32x128 .f32
  | 0 => s
  | n + 1 => cell W wr bs (xcol xb n) (blockState W wr bs xb s n)

/-- A block's outputs: row `t` is the first half of the state after step `t`. -/
def blockHist (W : FVec F S128x512 .f32) (wr bs : FVec F S1x512 .f32) (xb : Vec F S64x32x8 .f32)
    (s : FVec F S32x128 .f32 × FVec F S32x128 .f32) : Vec F S512x32x128 .f32 := fun j =>
  (blockState W wr bs xb s ((j 0).val + 1)).1 (ix2 (n0 := 32) (n1 := 128) (j 1) (j 2))

/-- The loop makes 64 trips. -/
theorem trips_eq : k0_t1_loop.trips = 64 := by decide

/-- Group `k`'s inputs are row `k` of the block. -/
theorem off1_eq : ∀ k : Fin k0_t1_loop.trips, k0_off1 k = ![k.val, 0, 0] := by decide +kernel

/-- Step `u` of group `k` stores at row `8 k + u` of the block. -/
theorem off2_eq : ∀ (k : Fin k0_t1_loop.trips) (u : Fin 8), k0_off2 k (BitVec.ofNat 32 u.val) = ![8 * k.val + u.val, 0, 0] := by decide +kernel

/-- The loaded group, column `u`, is the block's step `8 k + u`. -/
theorem col_group (arg1 : Memref sig .tc .vmem S64x32x8 .f32) (X : BufTy.Contents (Elt F) arg1.view.ty) (k : Fin k0_t1_loop.trips) (u : Fin 8) :
    col (group arg1 X k) u = xcol (arg1.view.read (Elt F) X) (8 * k.val + u.val) := by
  have hk : k.val < 64 := lt_of_lt_of_eq k.isLt trips_eq
  have hu : u.val < 8 := u.isLt
  funext j
  have hj : (j 1).val < 1 := (j 1).isLt
  unfold col xcol extractStridedSlice group trip_k0_t1.sl.r k0_pay12
  dsimp only
  rw [shapeCast_self]
  refine (shapeCast_dropUnit_apply ![32, 8] _ _ _).trans ?_
  rw [View.readAt_apply]
  refine congrArg _ (funext fun a => Fin.ext ?_)
  match a with
  | ⟨0, _⟩ => show k0_off1 k 0 + 1 * 0 = (8 * k.val + u.val) / 8 % 64; rw [off1_eq]; show k.val + 1 * 0 = _; omega
  | ⟨1, _⟩ => show k0_off1 k 1 + 1 * (0 + (j 0).val) = (j 0).val; rw [off1_eq]; show 0 + 1 * (0 + (j 0).val) = _; omega
  | ⟨2, _⟩ => show k0_off1 k 2 + 1 * (u.val + (j 1).val) = (8 * k.val + u.val) % 8; rw [off1_eq]; show 0 + 1 * (u.val + (j 1).val) = _; omega

section
variable (arg1 : Memref sig .tc .vmem S64x32x8 .f32) (v3 : Vec F S128x512 .f32) (v5 v7 : Vec F S1x512 .f32)
  (X : BufTy.Contents (Elt F) arg1.view.ty)

/-- The state after the first `u` steps of group `k` of a block, from the block's state before the group. -/
theorem after8_block (s : FVec F S32x128 .f32 × FVec F S32x128 .f32) (k : Fin k0_t1_loop.trips) : ∀ u : ℕ, u ≤ 8 →
    after8 arg1 v3 v5 v7 X k (blockState v3 v5 v7 (arg1.view.read (Elt F) X) s (8 * k.val)) u
      = blockState v3 v5 v7 (arg1.view.read (Elt F) X) s (8 * k.val + u)
  | 0, _ => rfl
  | u + 1, hu => by
    have ih := after8_block s k u (by omega)
    show cell _ _ _ (col (group arg1 X k) ⟨u % 8, _⟩) (after8 arg1 v3 v5 v7 X k _ u) = cell _ _ _ (xcol _ (8 * k.val + u)) _
    rw [ih, col_group]
    unfold k0_pay3 k0_pay4 k0_pay5
    dsimp only
    rw [shapeCast_self, shapeCast_self, shapeCast_self]
    simp only [Nat.mod_eq_of_lt (show u < 8 by omega)]
    rfl

variable (𝒱 : Variants) (c : Dev nD) (bd : Option 𝒱.V) (i : grid0.Coords) (harg1 : arg1.IsWhole) (arg2 : Memref sig .tc .vmem S128x512 .f32) (harg2 : arg2.IsWhole)
  (arg3 : Memref sig .tc .vmem S2x512 .f32) (harg3 : arg3.IsWhole) (arg4 : Memref sig .tc .vmem S512x32x128 .f32) (harg4 : arg4.IsWhole)
  (arg5 : Memref sig .tc .vmem S32x256 .f32) (harg5 : arg5.IsWhole) (arg6 : Memref sig .tc .vmem S32x128 .f32) (harg6 : arg6.IsWhole)
  (arg7 : Memref sig .tc .vmem S32x128 .f32) (harg7 : arg7.IsWhole) (init : Vec F S32x128 .f32 × Vec F S32x128 .f32)

/-- Before trip `n` the loop carries the state after `8 n` steps. -/
theorem st_state (n : ℕ) (hn : n ≤ 64) : (st_k0_t1 (F := F) 𝒱 c bd i arg1 harg1 arg2 harg2 arg3 harg3 arg4 harg4 arg5 harg5 arg6 harg6 arg7 harg7 v3 v5 v7 X init n).1 = blockState v3 v5 v7 (arg1.view.read (Elt F) X) init (8 * n) := by
  induction n with
  | zero => rfl
  | succ n ih =>
    have hk : n < k0_t1_loop.trips := lt_of_lt_of_eq (by omega) trips_eq.symm
    have ih := ih (by omega)
    rw [st_k0_t1_succ (k := ⟨n, hk⟩)]
    dsimp only
    rw [ih, tripR_eq, after8_block arg1 v3 v5 v7 X init ⟨n, hk⟩ 8 le_rfl]
    rfl

/-- One step's store holds its row of the block of outputs. -/
theorem rowPiece_apply (k : Fin k0_t1_loop.trips) (u : Fin 8) (x : (rowPiece k u (blockState v3 v5 v7 (arg1.view.read (Elt F) X) init (8 * k.val + (u.val + 1)))).1.shape.Idx) :
    (rowPiece k u (blockState v3 v5 v7 (arg1.view.read (Elt F) X) init (8 * k.val + (u.val + 1)))).2 x
      = blockHist v3 v5 v7 (arg1.view.read (Elt F) X) init ((rowPiece k u (blockState v3 v5 v7 (arg1.view.read (Elt F) X) init (8 * k.val + (u.val + 1)))).1.emb x) := by
  have h0 : (x 0).val < 1 := (x 0).isLt
  have ho := off2_eq k u
  refine (shapeCast_addUnit_apply ![32, 128] (blockState v3 v5 v7 (arg1.view.read (Elt F) X) init (8 * k.val + (u.val + 1))).1 shapeCasts_S32x128_S1x32x128 x).trans ?_
  unfold blockHist
  have e0 : (((rowPiece k u (blockState v3 v5 v7 (arg1.view.read (Elt F) X) init (8 * k.val + (u.val + 1)))).1.emb x) 0).val = 8 * k.val + u.val := by
    show k0_off2 k (BitVec.ofNat 32 u.val) 0 + 1 * (x 0).val = _
    rw [ho]; show 8 * k.val + u.val + 1 * (x 0).val = _; omega
  rw [e0, Nat.add_assoc]
  refine congrArg _ (funext fun a => Fin.ext ?_)
  match a with
  | ⟨0, _⟩ =>
    show (x 1).val = k0_off2 k (BitVec.ofNat 32 u.val) 1 + 1 * (x 1).val
    rw [ho]; show (x 1).val = 0 + 1 * (x 1).val; omega
  | ⟨1, _⟩ =>
    show (x 2).val = k0_off2 k (BitVec.ofNat 32 u.val) 2 + 1 * (x 2).val
    rw [ho]; show (x 2).val = 0 + 1 * (x 2).val; omega

/-- A trip's stores, from the state before it. -/
theorem st_pieces_succ (n : ℕ) (hn : n < k0_t1_loop.trips) : (st_k0_t1 (F := F) 𝒱 c bd i arg1 harg1 arg2 harg2 arg3 harg3 arg4 harg4 arg5 harg5 arg6 harg6 arg7 harg7 v3 v5 v7 X init (n + 1)).2
    = (([7, 6, 5, 4, 3, 2, 1, 0] : List (Fin 8)).map fun u => rowPiece ⟨n, hn⟩ u (blockState v3 v5 v7 (arg1.view.read (Elt F) X) init (8 * n + (u.val + 1)))) ++ (st_k0_t1 (F := F) 𝒱 c bd i arg1 harg1 arg2 harg2 arg3 harg3 arg4 harg4 arg5 harg5 arg6 harg6 arg7 harg7 v3 v5 v7 X init n).2 := by
  have h64 : n < 64 := lt_of_lt_of_eq hn trips_eq
  rw [st_k0_t1_succ (k := ⟨n, hn⟩)]
  dsimp only
  rw [st_state (n := n) (hn := by omega), tripL_eq]
  congr 1
  refine List.map_congr_left fun u _ => ?_
  have hu := u.isLt
  rw [after8_block arg1 v3 v5 v7 X init ⟨n, hn⟩ (u.val + 1) (by omega)]

/-- Every store of the first `n` trips holds its row of the block of outputs. -/
theorem st_pieces_apply (n : ℕ) (hn : n ≤ 64) :
    ∀ p ∈ (st_k0_t1 (F := F) 𝒱 c bd i arg1 harg1 arg2 harg2 arg3 harg3 arg4 harg4 arg5 harg5 arg6 harg6 arg7 harg7 v3 v5 v7 X init n).2, ∀ x : p.1.shape.Idx, p.2 x = blockHist v3 v5 v7 (arg1.view.read (Elt F) X) init (p.1.emb x) := by
  induction n with
  | zero => exact fun p hp => absurd hp List.not_mem_nil
  | succ n ih =>
    have hk : n < k0_t1_loop.trips := lt_of_lt_of_eq (by omega) trips_eq.symm
    rw [st_pieces_succ (hn := hk)]
    intro p hp
    rcases List.mem_append.mp hp with hp | hp
    · obtain ⟨u, -, rfl⟩ := List.mem_map.mp hp
      exact rowPiece_apply arg1 v3 v5 v7 X init ⟨n, hk⟩ u
    · exact ih (by omega) p hp

/-- The eight steps of a group, listed last first, are all of them. -/
theorem mem_steps : ∀ u : Fin 8, u ∈ ([7, 6, 5, 4, 3, 2, 1, 0] : List (Fin 8)) := by decide

/-- The first `n` trips store every row below `8 n`. -/
theorem st_pieces_cover (y : S512x32x128.Idx) (n : ℕ) (hn : n ≤ 64) (h : (y 0).val < 8 * n) : ∃ p ∈ (st_k0_t1 (F := F) 𝒱 c bd i arg1 harg1 arg2 harg2 arg3 harg3 arg4 harg4 arg5 harg5 arg6 harg6 arg7 harg7 v3 v5 v7 X init n).2, y ∈ p.1.set := by
  induction n with
  | zero => exact absurd h (by omega)
  | succ n ih =>
    have hk : n < k0_t1_loop.trips := lt_of_lt_of_eq (by omega) trips_eq.symm
    rw [st_pieces_succ (hn := hk)]
    by_cases hy : (y 0).val < 8 * n
    · obtain ⟨p, hp, hm⟩ := ih (by omega) hy
      exact ⟨p, List.mem_append_right _ hp, hm⟩
    · have hu : (y 0).val - 8 * n < 8 := by omega
      refine ⟨rowPiece ⟨n, hk⟩ ⟨(y 0).val - 8 * n, hu⟩ (blockState v3 v5 v7 (arg1.view.read (Elt F) X) init (8 * n + ((y 0).val - 8 * n + 1))),
        List.mem_append_left _ (List.mem_map.mpr ⟨⟨(y 0).val - 8 * n, hu⟩, mem_steps _, rfl⟩), ?_⟩
      unfold rowPiece
      rw [Rect.mem_set_unit]
      intro a
      rw [off2_eq]
      match a with
      | ⟨0, _⟩ => show 8 * n + ((y 0).val - 8 * n) ≤ (y 0).val ∧ (y 0).val < 8 * n + ((y 0).val - 8 * n) + 1; omega
      | ⟨1, _⟩ => have h1 : (y 1).val < 32 := (y 1).isLt; show 0 ≤ (y 1).val ∧ (y 1).val < 0 + 32; omega
      | ⟨2, _⟩ => have h2 : (y 2).val < 128 := (y 2).isLt; show 0 ≤ (y 2).val ∧ (y 2).val < 0 + 128; omega

/-- After the loop the output block reads the block of outputs, whatever it held before. -/
theorem read_st (f : BufTy.Contents (Elt F) arg4.view.ty) :
    arg4.view.read (Elt F) (arg4.view.writes (Elt F) f (st_k0_t1 (F := F) 𝒱 c bd i arg1 harg1 arg2 harg2 arg3 harg3 arg4 harg4 arg5 harg5 arg6 harg6 arg7 harg7 v3 v5 v7 X init k0_t1_loop.trips).2) = blockHist v3 v5 v7 (arg1.view.read (Elt F) X) init := by
  have h64 : k0_t1_loop.trips ≤ 64 := le_of_eq trips_eq
  funext y
  refine View.read_writes_apply_of_pieces _ _ _ _ (st_pieces_apply arg1 v3 v5 v7 X 𝒱 c bd i harg1 arg2 harg2 arg3 harg3 arg4 harg4 arg5 harg5 arg6 harg6 arg7 harg7 init _ h64) y
    (st_pieces_cover arg1 v3 v5 v7 X 𝒱 c bd i harg1 arg2 harg2 arg3 harg3 arg4 harg4 arg5 harg5 arg6 harg6 arg7 harg7 init y _ h64 ?_)
  have h0 : (y 0).val < 512 := (y 0).isLt
  rw [trips_eq]; omega

/-- After the loop it carries the state after the block's 512 steps. -/
theorem st_last : (st_k0_t1 (F := F) 𝒱 c bd i arg1 harg1 arg2 harg2 arg3 harg3 arg4 harg4 arg5 harg5 arg6 harg6 arg7 harg7 v3 v5 v7 X init k0_t1_loop.trips).1 = blockState v3 v5 v7 (arg1.view.read (Elt F) X) init 512 := by
  rw [trips_eq]; exact st_state (n := 64) (hn := le_rfl) ..

end

end Cert.KernelIdeal.Lstm

end
-- ==== Proof.Body.lean ====
/- The kernel's body at one grid point: what it leaves in the block of outputs, in the carried state and in the final state's block. -/
module

public import proofs.«01_k».proof.Proof.Block
public import proofs.«01_k».proof.Proof.Gen.KernelIdeal.Frame
public import proofs.«01_k».proof.Proof.Gen.KernelIdeal.Loops
public import Idealize.ShloMosaic.Lib.VecWindow

@[expose] public section

set_option maxRecDepth 16384

noncomputable section

namespace Cert.KernelIdeal.Lstm

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The grid's first point, as the body tests it. -/
abbrev isFirst (i : grid0.Coords) : Prop :=
  (Scalar.cmpi .ne (Scalar.extui (Scalar.cmpi .eq (BitVec.ofNat 32 (i 0).val) 0#32) : BitVec 32) 0#32) = 1#1

/-- The grid's last point, as the body tests it. -/
abbrev isLast (i : grid0.Coords) : Prop := k0_cond2 i = 1#1

theorem isFirst_iff (t : Fin cfg0.N) : isFirst (grid0.coords t) ↔ t.val = 0 := by
  have ht : t.val < 16 := Nat.lt_of_lt_of_eq t.isLt N_0
  have e0 : (grid0.coords t 0).val = t.val / 1 % 16 := Pipeline.Grid.coords_val t 0 (by decide) rfl
  simp only [isFirst, e0]; word_cmp

theorem isLast_iff (t : Fin cfg0.N) : isLast (grid0.coords t) ↔ t.val = 15 := by
  have ht : t.val < 16 := Nat.lt_of_lt_of_eq t.isLt N_0
  have e0 : (grid0.coords t 0).val = t.val / 1 % 16 := Pipeline.Grid.coords_val t 0 (by decide) rfl
  simp only [isLast, k0_cond2, e0]; word_cmp

/-- Row `r` of the two rows of gate terms, as a single row. -/
def rowOf (x : Vec F S2x512 .f32) (r : Fin 2) : FVec F S1x512 .f32 := fun j => x (ix2 (n0 := 2) (n1 := 512) r (j 1))

/-- The state after a block of 512 steps, from the block of inputs, the recurrent weights, the gate rows and the state before. -/
def endState (x0 : Vec F S64x32x8 .f32) (x1 : Vec F S128x512 .f32) (x2 : Vec F S2x512 .f32) (s : FVec F S32x128 .f32 × FVec F S32x128 .f32) :
    FVec F S32x128 .f32 × FVec F S32x128 .f32 := blockState x1 (rowOf x2 0) (rowOf x2 1) x0 s 512

/-- The outputs of a block of 512 steps. -/
def outBlock (x0 : Vec F S64x32x8 .f32) (x1 : Vec F S128x512 .f32) (x2 : Vec F S2x512 .f32) (s : FVec F S32x128 .f32 × FVec F S32x128 .f32) :
    Vec F S512x32x128 .f32 := blockHist x1 (rowOf x2 0) (rowOf x2 1) x0 s

/-- The state's halves side by side. -/
def both (s : FVec F S32x128 .f32 × FVec F S32x128 .f32) : Vec F S32x256 .f32 := fun j =>
  if h : (j 1).val < 128 then s.1 (ix2 (n0 := 32) (n1 := 128) (j 0) ⟨(j 1).val, h⟩)
  else s.2 (ix2 (n0 := 32) (n1 := 128) (j 0) ⟨(j 1).val - 128, by have h1 : (j 1).val < 256 := (j 1).isLt; omega⟩)

/-- The state the first grid point starts from. -/
def start : FVec F S32x128 .f32 × FVec F S32x128 .f32 := (k0_pay1, k0_pay2)

section

variable (𝒱 : Variants) (c : Dev nD) (bd : Option 𝒱.V) (i : grid0.Coords) (arg1 : Memref sig .tc .vmem S64x32x8 .f32) (harg1 : arg1.IsWhole)
    (arg2 : Memref sig .tc .vmem S128x512 .f32) (harg2 : arg2.IsWhole) (arg3 : Memref sig .tc .vmem S2x512 .f32) (harg3 : arg3.IsWhole)
    (arg4 : Memref sig .tc .vmem S512x32x128 .f32) (harg4 : arg4.IsWhole) (arg5 : Memref sig .tc .vmem S32x256 .f32) (harg5 : arg5.IsWhole)
    (arg6 : Memref sig .tc .vmem S32x128 .f32) (harg6 : arg6.IsWhole) (arg7 : Memref sig .tc .vmem S32x128 .f32) (harg7 : arg7.IsWhole)
  (x0 : Vec F S64x32x8 .f32) (x1 : Vec F S128x512 .f32) (x2 : Vec F S2x512 .f32) (s : FVec F S32x128 .f32 × FVec F S32x128 .f32)

/-- A load of one of the two gate rows reads that row. -/
theorem load_row (r : Fin 2) (off : Fin 2 → ℕ) (hoff : off = ![r.val, 0]) (inb : ∀ a, off a + S1x512.size a ≤ S2x512.size a) :
    View.readAt (Elt F) arg3.view (Rect.unit (s := S2x512) off S1x512.size inb).toLoadRect (harg3.unread x2) = rowOf x2 r := by
  subst hoff
  funext j
  rw [View.readAt_apply, harg3.read_unread]
  have hj : (j 0).val < 1 := (j 0).isLt
  unfold rowOf
  refine congrArg x2 (funext fun a => Fin.ext ?_)
  match a with
  | ⟨0, _⟩ => show r.val + 1 * (j 0).val = r.val; omega
  | ⟨1, _⟩ => show 0 + 1 * (j 1).val = (j 1).val; omega

/-- A load of the whole recurrent weights reads them. -/
theorem load_W (inb : ∀ a, (![0, 0] : Fin 2 → ℕ) a + S128x512.size a ≤ S128x512.size a) :
    View.readAt (Elt F) arg2.view (Rect.unit (s := S128x512) ![0, 0] S128x512.size inb).toLoadRect (harg2.unread x1) = x1 :=
  (View.readAt_full _ _ _).trans (harg2.read_unread x1)

variable (v3 : Vec F S128x512 .f32) (v5 v7 : Vec F S1x512 .f32) (u w : FVec F S32x128 .f32)
  (h3 : v3 = x1) (h5 : v5 = rowOf x2 0) (h7 : v7 = rowOf x2 1) (hu : u = s.1) (hw : w = s.2)

include h3 h5 h7 hu hw in
/-- What the loop's stores leave in the block of outputs. -/
theorem loop_out (f : BufTy.Contents (Elt F) arg4.view.ty) :
    arg4.view.read (Elt F) (arg4.view.writes (Elt F) f (st_k0_t1 𝒱 c bd i arg1 harg1 arg2 harg2 arg3 harg3 arg4 harg4 arg5 harg5 arg6 harg6 arg7 harg7 v3 v5 v7 (harg1.unread x0) (u, w) k0_t1_loop.trips).2) = outBlock x0 x1 x2 s := by
  subst h3 h5 h7 hu hw
  rw [read_st, harg1.read_unread]; rfl

include h3 h5 h7 hu hw in
/-- What the loop carries out. -/
theorem loop_end : (st_k0_t1 𝒱 c bd i arg1 harg1 arg2 harg2 arg3 harg3 arg4 harg4 arg5 harg5 arg6 harg6 arg7 harg7 v3 v5 v7 (harg1.unread x0) (u, w) k0_t1_loop.trips).1 = endState x0 x1 x2 s := by
  subst h3 h5 h7 hu hw
  rw [st_last, harg1.read_unread]; rfl

include h3 h5 h7 hu hw in
/-- A store of the carried first half leaves that half. -/
theorem keep_fst (f : BufTy.Contents (Elt F) arg6.view.ty) (inb : ∀ a, (![0, 0] : Fin 2 → ℕ) a + S32x128.size a ≤ S32x128.size a)
    (L : List (View.Piece (Elt F) S32x128 .f32)) :
    arg6.view.read (Elt F) (arg6.view.writes (Elt F) f (⟨Rect.unit (s := S32x128) ![0, 0] S32x128.size inb, k0_pay10 (st_k0_t1 𝒱 c bd i arg1 harg1 arg2 harg2 arg3 harg3 arg4 harg4 arg5 harg5 arg6 harg6 arg7 harg7 v3 v5 v7 (harg1.unread x0) (u, w) k0_t1_loop.trips).1.1⟩ :: L)) = (endState x0 x1 x2 s).1 := by
  rw [loop_end (h3 := h3) (h5 := h5) (h7 := h7) (hu := hu) (hw := hw)]
  refine (View.read_writes_full _ _ _ _ _).trans ?_
  unfold k0_pay10; rw [shapeCast_self]

include h3 h5 h7 hu hw in
/-- A store of the carried second half leaves that half. -/
theorem keep_snd (f : BufTy.Contents (Elt F) arg7.view.ty) (inb : ∀ a, (![0, 0] : Fin 2 → ℕ) a + S32x128.size a ≤ S32x128.size a)
    (L : List (View.Piece (Elt F) S32x128 .f32)) :
    arg7.view.read (Elt F) (arg7.view.writes (Elt F) f (⟨Rect.unit (s := S32x128) ![0, 0] S32x128.size inb, k0_pay11 (st_k0_t1 𝒱 c bd i arg1 harg1 arg2 harg2 arg3 harg3 arg4 harg4 arg5 harg5 arg6 harg6 arg7 harg7 v3 v5 v7 (harg1.unread x0) (u, w) k0_t1_loop.trips).1.2⟩ :: L)) = (endState x0 x1 x2 s).2 := by
  rw [loop_end (h3 := h3) (h5 := h5) (h7 := h7) (hu := hu) (hw := hw)]
  refine (View.read_writes_full _ _ _ _ _).trans ?_
  unfold k0_pay11; rw [shapeCast_self]

/-- The two stores of the final state leave its halves side by side. -/
theorem read_both (f : BufTy.Contents (Elt F) arg5.view.ty) (p : FVec F S32x128 .f32 × FVec F S32x128 .f32)
    (inb : ∀ a, (![0, 0] : Fin 2 → ℕ) a + S32x128.size a ≤ S32x256.size a) (inb' : ∀ a, (![0, 128] : Fin 2 → ℕ) a + S32x128.size a ≤ S32x256.size a) :
    arg5.view.read (Elt F) (arg5.view.writes (Elt F) f [⟨Rect.unit (s := S32x256) ![0, 128] S32x128.size inb', p.2⟩, ⟨Rect.unit (s := S32x256) ![0, 0] S32x128.size inb, p.1⟩])
      = both p := by
  funext y
  refine View.read_writes_apply_of_pieces _ _ _ _ ?_ y ?_
  · intro q hq x
    rcases List.mem_cons.mp hq with rfl | hq
    · have hx : (x 1).val < 128 := (x 1).isLt
      have h : ¬(((Rect.unit (s := S32x256) ![0, 128] S32x128.size inb').emb x) 1).val < 128 := by
        show ¬128 + 1 * (x 1).val < 128; omega
      unfold both
      rw [dif_neg h]
      refine congrArg p.2 (funext fun a => Fin.ext ?_)
      match a with
      | ⟨0, _⟩ => show (x 0).val = 0 + 1 * (x 0).val; omega
      | ⟨1, _⟩ => show (x 1).val = 128 + 1 * (x 1).val - 128; omega
    · obtain rfl := List.mem_singleton.mp hq
      have hx : (x 1).val < 128 := (x 1).isLt
      have h : (((Rect.unit (s := S32x256) ![0, 0] S32x128.size inb).emb x) 1).val < 128 := by
        show 0 + 1 * (x 1).val < 128; omega
      unfold both
      rw [dif_pos h]
      refine congrArg p.1 (funext fun a => Fin.ext ?_)
      match a with
      | ⟨0, _⟩ => show (x 0).val = 0 + 1 * (x 0).val; omega
      | ⟨1, _⟩ => show (x 1).val = 0 + 1 * (x 1).val; omega
  · have h0 : (y 0).val < 32 := (y 0).isLt
    have h1 : (y 1).val < 256 := (y 1).isLt
    by_cases h : (y 1).val < 128
    · refine ⟨_, List.mem_cons_of_mem _ (List.mem_singleton_self _), ?_⟩
      rw [Rect.mem_set_unit]
      exact Fin.forall_fin_two.mpr ⟨⟨Nat.zero_le _, by show _ < 0 + 32; omega⟩, ⟨Nat.zero_le _, by show _ < 0 + 128; omega⟩⟩
    · refine ⟨_, List.mem_cons_self, ?_⟩
      rw [Rect.mem_set_unit]
      exact Fin.forall_fin_two.mpr ⟨⟨Nat.zero_le _, by show _ < 0 + 32; omega⟩, ⟨by show 128 ≤ _; omega, by show _ < 128 + 128; omega⟩⟩

end

set_option maxHeartbeats 1000000 in
/-- The first grid point: the state starts at zero, 512 steps are made, their outputs fill the block, and the final state's block is left alone. -/
theorem body_first (c : Dev nD) (i : grid0.Coords) (arg1 : Memref sig .tc .vmem S64x32x8 .f32) (harg1 : arg1.IsWhole)
    (arg2 : Memref sig .tc .vmem S128x512 .f32) (harg2 : arg2.IsWhole) (arg3 : Memref sig .tc .vmem S2x512 .f32) (harg3 : arg3.IsWhole)
    (arg4 : Memref sig .tc .vmem S512x32x128 .f32) (harg4 : arg4.IsWhole) (arg5 : Memref sig .tc .vmem S32x256 .f32) (harg5 : arg5.IsWhole)
    (arg6 : Memref sig .tc .vmem S32x128 .f32) (harg6 : arg6.IsWhole) (arg7 : Memref sig .tc .vmem S32x128 .f32) (harg7 : arg7.IsWhole)
    (hc0 : isFirst i) (hc1 : ¬isLast i) (x0 : Vec F S64x32x8 .f32) (x1 : Vec F S128x512 .f32) (x2 : Vec F S2x512 .f32)
    (d5 : Vec F S32x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare d5
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2 start) ∗ owns (c : Thread nD τ) arg5 fullShare d5
            ∗ owns (c : Thread nD τ) arg6 fullShare (endState x0 x1 x2 start).1 ∗ owns (c : Thread nD τ) arg7 fullShare (endState x0 x1 x2 start).2) -∗ K ⟨⟩))
      ⊢ wp frame (wpE (defs₀ (F := F)) Variants.none c none) E (cc0_body i arg1 harg1 arg2 harg2 arg3 harg3 arg4 harg4 arg5 harg5 arg6 harg6 arg7 harg7) K := by
  simp only [cc0_body_eq_skeleton]; unfold cc0_body_skel
  unfold owns
  iintro ⟨⟨%f0, %hf0, H0⟩, ⟨%f1, %hf1, H1⟩, ⟨%f2, %hf2, H2⟩, ⟨%d3, %f3, -, H3⟩, ⟨%f4, %h4, H4⟩, ⟨%ds0, %fs0, -, HS0⟩, ⟨%ds1, %fs1, -, HS1⟩, Hk⟩
  obtain rfl := harg1.eq_unread hf0; obtain rfl := harg2.eq_unread hf1; obtain rfl := harg3.eq_unread hf2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    exact loop_out (h3 := load_W ..) (h5 := load_row (r := 0) (hoff := rfl) ..) (h7 := load_row (r := 1) (hoff := rfl) ..) (s := start) (hu := View.readCov_full _ _ _ _ _) (hw := View.readCov_full _ _ _ _ _) ..
  isplitl [H4]
  · iexists _; isplitr; swap; · iexact H4
    ipureintro
    exact h4
  isplitl [HS0]
  · iexists _; isplitr; swap; · iexact HS0
    ipureintro
    exact keep_fst (h3 := load_W ..) (h5 := load_row (r := 0) (hoff := rfl) ..) (h7 := load_row (r := 1) (hoff := rfl) ..) (s := start) (hu := View.readCov_full _ _ _ _ _) (hw := View.readCov_full _ _ _ _ _) ..
  iexists _; isplitr; swap; · iexact HS1
  ipureintro
  exact keep_snd (h3 := load_W ..) (h5 := load_row (r := 0) (hoff := rfl) ..) (h7 := load_row (r := 1) (hoff := rfl) ..) (s := start) (hu := View.readCov_full _ _ _ _ _) (hw := View.readCov_full _ _ _ _ _) ..

set_option maxHeartbeats 1000000 in
/-- A grid point between: 512 steps from the carried state. -/
theorem body_middle (c : Dev nD) (i : grid0.Coords) (arg1 : Memref sig .tc .vmem S64x32x8 .f32) (harg1 : arg1.IsWhole)
    (arg2 : Memref sig .tc .vmem S128x512 .f32) (harg2 : arg2.IsWhole) (arg3 : Memref sig .tc .vmem S2x512 .f32) (harg3 : arg3.IsWhole)
    (arg4 : Memref sig .tc .vmem S512x32x128 .f32) (harg4 : arg4.IsWhole) (arg5 : Memref sig .tc .vmem S32x256 .f32) (harg5 : arg5.IsWhole)
    (arg6 : Memref sig .tc .vmem S32x128 .f32) (harg6 : arg6.IsWhole) (arg7 : Memref sig .tc .vmem S32x128 .f32) (harg7 : arg7.IsWhole)
    (hc0 : ¬isFirst i) (hc1 : ¬isLast i) (x0 : Vec F S64x32x8 .f32) (x1 : Vec F S128x512 .f32) (x2 : Vec F S2x512 .f32)
    (s : FVec F S32x128 .f32 × FVec F S32x128 .f32) (d5 : Vec F S32x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare d5
        ∗ owns (c : Thread nD τ) arg6 fullShare s.1 ∗ owns (c : Thread nD τ) arg7 fullShare s.2
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2 s) ∗ owns (c : Thread nD τ) arg5 fullShare d5
            ∗ owns (c : Thread nD τ) arg6 fullShare (endState x0 x1 x2 s).1 ∗ owns (c : Thread nD τ) arg7 fullShare (endState x0 x1 x2 s).2) -∗ K ⟨⟩))
      ⊢ wp frame (wpE (defs₀ (F := F)) Variants.none c none) E (cc0_body i arg1 harg1 arg2 harg2 arg3 harg3 arg4 harg4 arg5 harg5 arg6 harg6 arg7 harg7) K := by
  simp only [cc0_body_eq_skeleton]; unfold cc0_body_skel
  unfold owns
  iintro ⟨⟨%f0, %hf0, H0⟩, ⟨%f1, %hf1, H1⟩, ⟨%f2, %hf2, H2⟩, ⟨%d3, %f3, -, H3⟩, ⟨%f4, %h4, H4⟩, ⟨%fs0, %hs0, HS0⟩, ⟨%fs1, %hs1, HS1⟩, Hk⟩
  obtain rfl := harg1.eq_unread hf0; obtain rfl := harg2.eq_unread hf1; obtain rfl := harg3.eq_unread hf2; obtain rfl := harg6.eq_unread hs0; obtain rfl := harg7.eq_unread hs1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    exact loop_out (h3 := load_W ..) (h5 := load_row (r := 0) (hoff := rfl) ..) (h7 := load_row (r := 1) (hoff := rfl) ..) (s := s) (hu := (View.readAt_full _ _ _).trans (harg6.read_unread _)) (hw := (View.readAt_full _ _ _).trans (harg7.read_unread _)) ..
  isplitl [H4]
  · iexists _; isplitr; swap; · iexact H4
    ipureintro
    exact h4
  isplitl [HS0]
  · iexists _; isplitr; swap; · iexact HS0
    ipureintro
    exact keep_fst (h3 := load_W ..) (h5 := load_row (r := 0) (hoff := rfl) ..) (h7 := load_row (r := 1) (hoff := rfl) ..) (s := s) (hu := (View.readAt_full _ _ _).trans (harg6.read_unread _)) (hw := (View.readAt_full _ _ _).trans (harg7.read_unread _)) ..
  iexists _; isplitr; swap; · iexact HS1
  ipureintro
  exact keep_snd (h3 := load_W ..) (h5 := load_row (r := 0) (hoff := rfl) ..) (h7 := load_row (r := 1) (hoff := rfl) ..) (s := s) (hu := (View.readAt_full _ _ _).trans (harg6.read_unread _)) (hw := (View.readAt_full _ _ _).trans (harg7.read_unread _)) ..

set_option maxHeartbeats 1000000 in
/-- The last grid point: 512 steps from the carried state, whose result also fills the final state's block. -/
theorem body_last (c : Dev nD) (i : grid0.Coords) (arg1 : Memref sig .tc .vmem S64x32x8 .f32) (harg1 : arg1.IsWhole)
    (arg2 : Memref sig .tc .vmem S128x512 .f32) (harg2 : arg2.IsWhole) (arg3 : Memref sig .tc .vmem S2x512 .f32) (harg3 : arg3.IsWhole)
    (arg4 : Memref sig .tc .vmem S512x32x128 .f32) (harg4 : arg4.IsWhole) (arg5 : Memref sig .tc .vmem S32x256 .f32) (harg5 : arg5.IsWhole)
    (arg6 : Memref sig .tc .vmem S32x128 .f32) (harg6 : arg6.IsWhole) (arg7 : Memref sig .tc .vmem S32x128 .f32) (harg7 : arg7.IsWhole)
    (hc0 : ¬isFirst i) (hc1 : isLast i) (x0 : Vec F S64x32x8 .f32) (x1 : Vec F S128x512 .f32) (x2 : Vec F S2x512 .f32)
    (s : FVec F S32x128 .f32 × FVec F S32x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ owns (c : Thread nD τ) arg6 fullShare s.1 ∗ owns (c : Thread nD τ) arg7 fullShare s.2
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2 s) ∗ owns (c : Thread nD τ) arg5 fullShare (both (endState x0 x1 x2 s))
            ∗ owns (c : Thread nD τ) arg6 fullShare (endState x0 x1 x2 s).1 ∗ owns (c : Thread nD τ) arg7 fullShare (endState x0 x1 x2 s).2) -∗ K ⟨⟩))
      ⊢ wp frame (wpE (defs₀ (F := F)) Variants.none c none) E (cc0_body i arg1 harg1 arg2 harg2 arg3 harg3 arg4 harg4 arg5 harg5 arg6 harg6 arg7 harg7) K := by
  simp only [cc0_body_eq_skeleton]; unfold cc0_body_skel
  unfold owns
  iintro ⟨⟨%f0, %hf0, H0⟩, ⟨%f1, %hf1, H1⟩, ⟨%f2, %hf2, H2⟩, ⟨%d3, %f3, -, H3⟩, ⟨%d4, %f4, -, H4⟩, ⟨%fs0, %hs0, HS0⟩, ⟨%fs1, %hs1, HS1⟩, Hk⟩
  obtain rfl := harg1.eq_unread hf0; obtain rfl := harg2.eq_unread hf1; obtain rfl := harg3.eq_unread hf2; obtain rfl := harg6.eq_unread hs0; obtain rfl := harg7.eq_unread hs1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    exact loop_out (h3 := load_W ..) (h5 := load_row (r := 0) (hoff := rfl) ..) (h7 := load_row (r := 1) (hoff := rfl) ..) (s := s) (hu := (View.readAt_full _ _ _).trans (harg6.read_unread _)) (hw := (View.readAt_full _ _ _).trans (harg7.read_unread _)) ..
  isplitl [H4]
  · iexists _; isplitr; swap; · iexact H4
    ipureintro
    exact (read_both (p := _) ..).trans (congrArg both (loop_end (h3 := load_W ..) (h5 := load_row (r := 0) (hoff := rfl) ..) (h7 := load_row (r := 1) (hoff := rfl) ..) (s := s) (hu := (View.readAt_full _ _ _).trans (harg6.read_unread _)) (hw := (View.readAt_full _ _ _).trans (harg7.read_unread _)) ..))
  isplitl [HS0]
  · iexists _; isplitr; swap; · iexact HS0
    ipureintro
    exact keep_fst (h3 := load_W ..) (h5 := load_row (r := 0) (hoff := rfl) ..) (h7 := load_row (r := 1) (hoff := rfl) ..) (s := s) (hu := (View.readAt_full _ _ _).trans (harg6.read_unread _)) (hw := (View.readAt_full _ _ _).trans (harg7.read_unread _)) ..
  iexists _; isplitr; swap; · iexact HS1
  ipureintro
  exact keep_snd (h3 := load_W ..) (h5 := load_row (r := 0) (hoff := rfl) ..) (h7 := load_row (r := 1) (hoff := rfl) ..) (s := s) (hu := (View.readAt_full _ _ _).trans (harg6.read_unread _)) (hw := (View.readAt_full _ _ _).trans (harg7.read_unread _)) ..

end Cert.KernelIdeal.Lstm

end
-- ==== Proof.Run.lean ====
/- The kernel's run: what each grid point leaves, and what the region leaves in its arrays. -/
module

public import proofs.«01_k».proof.Proof.Body
public import Idealize.ShloMosaic.Lib.Claim

@[expose] public section

set_option maxRecDepth 16384

noncomputable section

namespace Cert.KernelIdeal.Lstm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers and the carried scratch -/

/-- Window `w`'s staging buffer at point `t`, and its wholeness. -/
abbrev st0 (t : Fin cfg0.N) := win0_0.stage (cfg0.slots t 0)
abbrev st1 (t : Fin cfg0.N) := win0_1.stage (cfg0.slots t 1)
abbrev st2 (t : Fin cfg0.N) := win0_2.stage (cfg0.slots t 2)
abbrev st3 (t : Fin cfg0.N) := win0_3.stage (cfg0.slots t 3)
abbrev st4 (t : Fin cfg0.N) := win0_4.stage (cfg0.slots t 4)
abbrev hst0 (t : Fin cfg0.N) : (st0 t).IsWhole := hstage0_0 ((cfg0.slots t 0).cast nbuf0_0)
abbrev hst1 (t : Fin cfg0.N) : (st1 t).IsWhole := hstage0_1 ((cfg0.slots t 1).cast nbuf0_1)
abbrev hst2 (t : Fin cfg0.N) : (st2 t).IsWhole := hstage0_2 ((cfg0.slots t 2).cast nbuf0_2)
abbrev hst3 (t : Fin cfg0.N) : (st3 t).IsWhole := hstage0_3 ((cfg0.slots t 3).cast nbuf0_3)
abbrev hst4 (t : Fin cfg0.N) : (st4 t).IsWhole := hstage0_4 ((cfg0.slots t 4).cast nbuf0_4)

/-- The two scratch buffers the kernel carries its state in. -/
abbrev scH : Memref sig .tc .vmem S32x128 .f32 := Memref.whole cc0_scratch0
abbrev scC : Memref sig .tc .vmem S32x128 .f32 := Memref.whole cc0_scratch1

/-- Before the first point the scratch holds anything. -/
theorem rest_eq (c : Dev nD) : (Pipeline.ΦA spec0 c : sProp 𝕄)
    = iprop(iprop((∃ d, owns (c : Thread nD τ) scH fullShare d) ∗ (∃ d, owns (c : Thread nD τ) scC fullShare d)) ∗ (∃ r, prngReg c r)) := by
  unfold Pipeline.ΦA
  rw [scopedRest0_eq]
  simp only [scH, scC, owns_whole]
  try rfl

/-- The state carried into grid point `n`: zero, then each point's 512 steps. -/
def carried (c : Dev nD) : ℕ → FVec F S32x128 .f32 × FVec F S32x128 .f32
  | 0 => start
  | n + 1 => if h : n < cfg0.N then endState (iblk m c 0 ⟨n, h⟩) (iblk m c 1 ⟨n, h⟩) (iblk m c 2 ⟨n, h⟩) (carried c n) else carried c n

/-- The state carried out of a point is the point's 512 steps on the state carried in. -/
theorem carried_succ (c : Dev nD) (t : Fin cfg0.N) :
    carried m c (t.val + 1) = endState (iblk m c 0 t) (iblk m c 1 t) (iblk m c 2 t) (carried m c t.val) := by
  rw [carried, dif_pos t.isLt]

/-- The invariant before point `n`: the scratch at the carried state, the generator register at anything. -/
def inv (c : Dev nD) : ℕ → sProp 𝕄
  | 0 => Pipeline.ΦA spec0 c
  | n + 1 => iprop(iprop(owns (c : Thread nD τ) scH fullShare (carried m c (n + 1)).1 ∗ owns (c : Thread nD τ) scC fullShare (carried m c (n + 1)).2) ∗ (∃ r, prngReg c r))

theorem inv_pos (c : Dev nD) (n : ℕ) (h : n ≠ 0) :
    inv m c n = iprop(iprop(owns (c : Thread nD τ) scH fullShare (carried m c n).1 ∗ owns (c : Thread nD τ) scC fullShare (carried m c n).2) ∗ (∃ r, prngReg c r)) := by
  cases n with
  | zero => exact absurd rfl h
  | succ n => rfl

/-- The pipeline's proof data: each input's buffer at its block, the outputs' block at the point's 512 outputs, the final state's block
    at the state carried out, the scratch at the carried state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t) (carried m c t.val)
    | ⟨4, _⟩ => both (carried m c (t.val + 1))
  Φ t := inv m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outBlock (iblk m c 0 t) (iblk m c 1 t) (iblk m c 2 t) (carried m c t.val) := by
  dsimp only [dats]
theorem after_4 (c : Dev nD) (t : Fin cfg0.N) : (dats m 0 c).after 4 t = both (carried m c (t.val + 1)) := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- A window that is never idle is left at its contents after the body. -/
theorem leaves_live (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- The final state's window is idle exactly before the last point. -/
theorem idle_4 (t : Fin cfg0.N) : cfg0.idle 4 (grid0.coords t) = !(k0_cond2 (grid0.coords t) == 1#1) := rfl

/-- Before the last point the final state's window is left as found. -/
theorem leaves_idle (c : Dev nD) (t : Fin cfg0.N) (h : ¬isLast (grid0.coords t)) :
    (dats m 0 c).leavesExact 4 t = iprop(∃ d, owns (c : Thread nD τ) (st4 t) fullShare ((dats m 0 c).before 4 t d)) := by
  have ht : t.val < 16 := Nat.lt_of_lt_of_eq t.isLt N_0
  refine Dat.leavesExact_idle (dat := dats m 0 c) 4 t (by rw [idle_4, Bool.not_eq_true', beq_eq_false_iff_ne]; exact h) ?_
  have hl := (isLast_iff t).not.mp h
  refine Bool.eq_false_iff.mpr fun hf => hl ?_
  have := (flush0_4 t).mp hf
  omega

theorem leaves_last (c : Dev nD) (t : Fin cfg0.N) (h : isLast (grid0.coords t)) :
    (dats m 0 c).leavesExact 4 t = owns (c : Thread nD τ) (st4 t) fullShare ((dats m 0 c).after 4 t) :=
  leaves_live m c t 4 (by rw [idle_4, Bool.not_eq_false', beq_iff_eq]; exact h)

set_option maxHeartbeats 1000000 in
/-- The body at any point meets its obligation. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl,
    show (dats m 0 c).Φ t.succ = inv m c (t.val + 1) from rfl, show (dats m 0 c).Φ t.castSucc = inv m c t.val from rfl,
    inv_pos m c _ (Nat.succ_ne_zero _), carried_succ,
    leaves_live m c t 0 rfl, leaves_live m c t 1 rfl, leaves_live m c t 2 rfl, leaves_live m c t 3 rfl, after_0, after_1, after_2, after_3]
  by_cases hz : t.val = 0
  · have hf : isFirst (grid0.coords t) := (isFirst_iff t).mpr hz
    have hl : ¬isLast (grid0.coords t) := fun h => by have := (isLast_iff t).mp h; omega
    rw [leaves_idle m c t hl, hz]
    rw [show inv m c 0 = Pipeline.ΦA spec0 c from rfl, rest_eq, show carried m c 0 = start from rfl]
    iintro ⟨⟨⟨HS0, HS1⟩, Hg⟩, Ho, ⟨%d0, H0⟩, ⟨%d1, H1⟩, ⟨%d2, H2⟩, ⟨%d3, H3⟩, ⟨%d4, H4⟩⟩
    iapply (body_first c (grid0.coords t) (st0 t) (hst0 t) (st1 t) (hst1 t) (st2 t) (hst2 t) (st3 t) (hst3 t) (st4 t) (hst4 t)
      scH (Memref.isWhole_whole _) scC (Memref.isWhole_whole _) hf hl (iblk m c 0 t) (iblk m c 1 t) (iblk m c 2 t) _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, H3, H4, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    iexists _; iexact H4
  · have hf : ¬isFirst (grid0.coords t) := fun h => hz ((isFirst_iff t).mp h)
    rw [inv_pos m c _ hz]
    by_cases hl : isLast (grid0.coords t)
    · rw [leaves_last m c t hl, after_4, carried_succ]
      iintro ⟨⟨⟨HS0, HS1⟩, Hg⟩, Ho, ⟨%d0, H0⟩, ⟨%d1, H1⟩, ⟨%d2, H2⟩, ⟨%d3, H3⟩, ⟨%d4, H4⟩⟩
      iapply (body_last c (grid0.coords t) (st0 t) (hst0 t) (st1 t) (hst1 t) (st2 t) (hst2 t) (st3 t) (hst3 t) (st4 t) (hst4 t)
        scH (Memref.isWhole_whole _) scC (Memref.isWhole_whole _) hf hl (iblk m c 0 t) (iblk m c 1 t) (iblk m c 2 t) (carried m c t.val) Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      iexact H4
    · rw [leaves_idle m c t hl]
      iintro ⟨⟨⟨HS0, HS1⟩, Hg⟩, Ho, ⟨%d0, H0⟩, ⟨%d1, H1⟩, ⟨%d2, H2⟩, ⟨%d3, H3⟩, ⟨%d4, H4⟩⟩
      iapply (body_middle c (grid0.coords t) (st0 t) (hst0 t) (st1 t) (hst1 t) (st2 t) (hst2 t) (st3 t) (hst3 t) (st4 t) (hst4 t)
        scH (Memref.isWhole_whole _) scC (Memref.isWhole_whole _) hf hl (iblk m c 0 t) (iblk m c 1 t) (iblk m c 2 t) (carried m c t.val) _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      iexists _; iexact H4

/-- The body table's row at point `t`'s slots is the body at `t`. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands the region the invariant before the first point. -/
theorem hin (c : Dev nD) : Pipeline.ΦA spec0 c ⊢ (dats m 0 c).Φ 0 := Idealize.SL.BI.Entails.refl _

/-- After the last point the invariant gives the scratch back. -/
theorem hout (c : Dev nD) : (dats m 0 c).Φ (Fin.last cfg0.N) ⊢ Pipeline.ΦA spec0 c := by
  have hN : cfg0.N = 16 := N_0
  rw [show (dats m 0 c).Φ (Fin.last cfg0.N) = inv m c cfg0.N from rfl, inv_pos m c _ (by omega), rest_eq]
  iintro ⟨⟨HS0, HS1⟩, Hg⟩
  isplitl [HS0 HS1]
  · isplitl [HS0]
    · iexists _; iexact HS0
    iexists _; iexact HS1
  iexact Hg

/-! ## The run and the frame -/

set_option backward.isDefEq.respectTransparency.types false in
set_option maxHeartbeats 800000 in
/-- Every execution terminates with the pipeline's arrays and the later host lines' results as the proof data say, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m) (Q' := _)

/-- The frame: every execution terminates, the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Lstm

end
-- ==== Proof.Value.lean ====
/- The kernel's two results as functions of its arguments: 8192 steps of the cell from zero. -/
module

public import proofs.«01_k».proof.Proof.Run
public import Idealize.ShloMosaic.Lib.Pipeline.Value
public import Idealize.ShloMosaic.Lib.Pointwise.Reshape

@[expose] public section

set_option maxRecDepth 16384

noncomputable section

namespace Cert.KernelIdeal.Lstm

open Idealize.ShloMosaic Idealize.ShloMosaic.TcCoe Idealize.ShloMosaic.ValueIdx Idealize.ShloMosaic.StableHlo
open Idealize.SL Idealize.SL.Sem
open Idealize.ShloMosaic.Pipeline (Dat Cfg Window cellOf)
open Cert.KernelIdeal Cert.KernelIdeal.Gen

variable {F : FTy → Type} [FloatOps F]

/-- The inputs of step `n`, one per batch row. -/
def xin (x : Vec F S32x8192x1 .f32) (n : ℕ) : FVec F S32x1 .f32 := fun j =>
  x (ValueIdx.ix3 (n0 := 32) (n1 := 8192) (n2 := 1) (j 0) ⟨n % 8192, Nat.mod_lt _ (by decide)⟩ 0)

/-- The state after `n` steps from zero. -/
def fullState (W : FVec F S128x512 .f32) (wr bs : FVec F S1x512 .f32) (x : Vec F S32x8192x1 .f32) : ℕ → FVec F S32x128 .f32 × FVec F S32x128 .f32
  | 0 => start
  | n + 1 => cell W wr bs (xin x n) (fullState W wr bs x n)

/-- A block whose inputs are those of steps `base, base + 1, …` continues the sequence from step `base`. -/
theorem blockState_full (W : FVec F S128x512 .f32) (wr bs : FVec F S1x512 .f32) (x : Vec F S32x8192x1 .f32) (xb : Vec F S64x32x8 .f32) (base : ℕ)
    (hx : ∀ n, n < 512 → xcol xb n = xin x (base + n)) (n : ℕ) (hn : n ≤ 512) :
    blockState W wr bs xb (fullState W wr bs x base) n = fullState W wr bs x (base + n) := by
  induction n with
  | zero => rfl
  | succ n ih =>
    show cell W wr bs (xcol xb n) _ = cell W wr bs (xin x (base + n)) _
    rw [ih (by omega), hx n (by omega)]; rfl

variable (m : (ℓ : Loc nD τ sig) → Buf (Elt F) ℓ) (ρ : Dev nD → PrngReg)

/-! ## The arrays as the region finds them -/

/-- The regrouped inputs: time step `8 g + u` of row `b` is at `(g, b, u)`. -/
theorem V_x (c : Dev nD) (j : S1024x32x8.Idx) (k : Fin 8192) (hk : k.val = 8 * (j 0).val + (j 2).val) :
    V m c main_v8 j = m ((c : Thread nD τ).loc main_arg0) (ValueIdx.ix3 (n0 := 32) (n1 := 8192) (n2 := 1) (j 1) k 0) := by
  have e : V m c main_v8 = transpose S1024x32x8 [1, 0, 2] (shapeCast S32x1024x8 (shapeCast S32x8192 (m ((c : Thread nD τ).loc main_arg0)) shapeCasts_S32x8192x1_S32x8192)
      shapeCasts_S32x8192_S32x1024x8) transposes_S32x1024x8_S1024x32x8_1_0_2 := by
    simp only [V, V0, List.flatten_cons, List.flatten_nil, List.append_nil]
    after_results
    rfl
  rw [e]
  have h1 : (j 1).val < 32 := (j 1).isLt
  have h2 : (j 2).val < 8 := (j 2).isLt
  refine (transpose_apply [1, 0, 2] _ _ j (ValueIdx.ix3 (n0 := 32) (n1 := 1024) (n2 := 8) (j 1) (j 0) (j 2)) ?_).trans ?_
  · intro a
    match a with
    | ⟨0, _⟩ => rfl
    | ⟨1, _⟩ => rfl
    | ⟨2, _⟩ => rfl
  refine (shapeCast_apply _ _ _ (ValueIdx.ix2 (n0 := 32) (n1 := 8192) (j 1) k) ?_).trans ?_
  · rw [rowMajor_val2 _ 8192 rfl, rowMajor_val3 _ 8192 8 rfl rfl]
    show (j 1).val * 8192 + k.val = (j 1).val * 8192 + (j 0).val * 8 + (j 2).val
    omega
  refine shapeCast_apply (s := S32x8192x1) (t := S32x8192) _ _ _ _ ?_
  rw [rowMajor_val2 _ 8192 rfl, rowMajor_val3 _ 8192 1 rfl rfl]
  show (j 1).val * 8192 + k.val * 1 + 0 = (j 1).val * 8192 + k.val
  omega

/-- The recurrent weights, transposed. -/
theorem V_W (c : Dev nD) (j : S128x512.Idx) :
    V m c main_v0 j = m ((c : Thread nD τ).loc main_arg2) (ValueIdx.ix2 (n0 := 512) (n1 := 128) (j 1) (j 0)) := by
  have e : V m c main_v0 = transpose S128x512 [1, 0] (m ((c : Thread nD τ).loc main_arg2)) transposes_S512x128_S128x512_1_0 := by
    simp only [V, V0, List.flatten_cons, List.flatten_nil, List.append_nil]
    after_results
  rw [e]
  refine transpose_apply [1, 0] _ _ j _ ?_
  intro a
  match a with
  | ⟨0, _⟩ => rfl
  | ⟨1, _⟩ => rfl

/-- The two gate rows, side by side. -/
theorem V_rows (c : Dev nD) : V m c main_v5 = concatenate S2x512 0
    [⟨S1x512, broadcastInDim S1x512 ![1] bcast_S512_S1x512_1 (shapeCast S512 (m ((c : Thread nD τ).loc main_arg1)) shapeCasts_S512x1_S512)⟩,
     ⟨S1x512, broadcastInDim S1x512 ![1] bcast_S512_S1x512_1 (addf (m ((c : Thread nD τ).loc main_arg3)) (m ((c : Thread nD τ).loc main_arg4)))⟩]
    concatenates_S1x512_S1x512_S2x512_d0 := by
  simp only [V, V0, List.flatten_cons, List.flatten_nil, List.append_nil]
  after_results
  rfl

/-- A vector of gate terms as a row. -/
theorem row_apply (x : FVec F S512 .f32) (j : S1x512.Idx) : broadcastInDim S1x512 ![1] bcast_S512_S1x512_1 x j = x (ValueIdx.ix1 (n := 512) (j 1)) := by
  refine broadcastInDim_apply _ _ _ _ _ ?_
  intro a
  match a with
  | ⟨0, _⟩ => rfl

/-- The first gate row is the input weights. -/
theorem V_row0 (c : Dev nD) (j : S1x512.Idx) :
    rowOf (V m c main_v5) 0 j = m ((c : Thread nD τ).loc main_arg1) (ValueIdx.ix2 (n0 := 512) (n1 := 1) (j 1) 0) := by
  rw [V_rows]
  unfold rowOf
  refine (concatenate_pair_apply_left (t := S2x512) (s₁ := S1x512) (s₂ := S1x512) 0 _ _ _ _ rfl (ValueIdx.ix2 (n0 := 1) (n1 := 512) 0 (j 1)) ?_).trans ?_
  · intro a
    match a with
    | ⟨0, _⟩ => rfl
    | ⟨1, _⟩ => rfl
  rw [row_apply]
  refine shapeCast_apply (s := S512x1) (t := S512) _ _ _ _ ?_
  rw [rowMajor_val2 _ 1 rfl, rowMajor_val1]
  show (j 1).val * 1 + 0 = (j 1).val
  omega

/-- The second gate row is the sum of the two biases. -/
theorem V_row1 (c : Dev nD) (j : S1x512.Idx) :
    rowOf (V m c main_v5) 1 j = addf (m ((c : Thread nD τ).loc main_arg3)) (m ((c : Thread nD τ).loc main_arg4)) (ValueIdx.ix1 (n := 512) (j 1)) := by
  rw [V_rows]
  unfold rowOf
  refine (concatenate_pair_apply_right (t := S2x512) (s₁ := S1x512) (s₂ := S1x512) 0 _ _ _ (ValueIdx.ix2 (n0 := 2) (n1 := 512) 1 (j 1)) rfl rfl (ValueIdx.ix2 (n0 := 1) (n1 := 512) 0 (j 1)) ?_ rfl).trans ?_
  · intro a ha
    match a with
    | ⟨0, _⟩ => exact absurd rfl ha
    | ⟨1, _⟩ => rfl
  exact row_apply _ _

/-! ## The windows' blocks -/

theorem index0 : ∀ t : Fin cfg0.N, win0_0.index t 0 = t.val ∧ win0_0.index t 1 = 0 ∧ win0_0.index t 2 = 0 := by decide +kernel
theorem index1 : ∀ t : Fin cfg0.N, win0_1.index t 0 = 0 ∧ win0_1.index t 1 = 0 := by decide +kernel
theorem index2 : ∀ t : Fin cfg0.N, win0_2.index t 0 = 0 ∧ win0_2.index t 1 = 0 := by decide +kernel
theorem index3 : ∀ t : Fin cfg0.N, win0_3.index t 0 = t.val ∧ win0_3.index t 1 = 0 ∧ win0_3.index t 2 = 0 := by decide +kernel
theorem index4 : ∀ t : Fin cfg0.N, win0_4.index t 0 = 0 ∧ win0_4.index t 1 = 0 := by decide +kernel

/-- The weights' block is the whole array. -/
theorem iblk1_eq (c : Dev nD) (t : Fin cfg0.N) : iblk m c 1 t = V m c main_v0 := by
  obtain ⟨e0, e1⟩ := index1 t
  funext j
  refine congrArg (V m c main_v0) (funext fun a => Fin.ext ?_)
  match a with
  | ⟨0, _⟩ => show win0_1.index t 0 * 128 + 1 * (j 0).val = (j 0).val; omega
  | ⟨1, _⟩ => show win0_1.index t 1 * 512 + 1 * (j 1).val = (j 1).val; omega

/-- The gate rows' block is the whole array. -/
theorem iblk2_eq (c : Dev nD) (t : Fin cfg0.N) : iblk m c 2 t = V m c main_v5 := by
  obtain ⟨e0, e1⟩ := index2 t
  funext j
  refine congrArg (V m c main_v5) (funext fun a => Fin.ext ?_)
  match a with
  | ⟨0, _⟩ => show win0_2.index t 0 * 2 + 1 * (j 0).val = (j 0).val; omega
  | ⟨1, _⟩ => show win0_2.index t 1 * 512 + 1 * (j 1).val = (j 1).val; omega

/-- Step `n` of point `t`'s block of inputs is step `512 t + n` of the sequence. -/
theorem xcol_iblk (c : Dev nD) (t : Fin cfg0.N) (n : ℕ) (hn : n < 512) :
    xcol (iblk m c 0 t) n = xin (m ((c : Thread nD τ).loc main_arg0)) (512 * t.val + n) := by
  have ht : t.val < 16 := Nat.lt_of_lt_of_eq t.isLt N_0
  obtain ⟨e0, e1, e2⟩ := index0 t
  funext j
  have hj : (j 0).val < 32 := (j 0).isLt
  unfold xcol xin
  have hg : 64 * t.val + n / 8 % 64 < 1024 := by omega
  have e : ((cfg0.win 0).blk t).view.emb (ValueIdx.ix3 (n0 := 64) (n1 := 32) (n2 := 8) ⟨n / 8 % 64, Nat.mod_lt _ (by decide)⟩ (j 0) ⟨n % 8, Nat.mod_lt _ (by decide)⟩)
      = ValueIdx.ix3 (n0 := 1024) (n1 := 32) (n2 := 8) ⟨64 * t.val + n / 8 % 64, hg⟩ (j 0) ⟨n % 8, Nat.mod_lt _ (by decide)⟩ := by
    funext a; apply Fin.ext
    match a with
    | ⟨0, _⟩ => show win0_0.index t 0 * 64 + 1 * (n / 8 % 64) = 64 * t.val + n / 8 % 64; omega
    | ⟨1, _⟩ => show win0_0.index t 1 * 32 + 1 * (j 0).val = (j 0).val; omega
    | ⟨2, _⟩ => show win0_0.index t 2 * 8 + 1 * (n % 8) = n % 8; omega
  show V m c main_v8 (((cfg0.win 0).blk t).view.emb _) = _
  rw [e]
  exact V_x m c _ _ (by show (512 * t.val + n) % 8192 = 8 * (64 * t.val + n / 8 % 64) + n % 8; omega)

/-- The state of the kernel's run after `n` steps. -/
def kstate (c : Dev nD) : ℕ → FVec F S32x128 .f32 × FVec F S32x128 .f32 :=
  fullState (V m c main_v0) (rowOf (V m c main_v5) 0) (rowOf (V m c main_v5) 1) (m ((c : Thread nD τ).loc main_arg0))

/-- A point's block from the state after `512 t` steps. -/
theorem block_kstate (c : Dev nD) (t : Fin cfg0.N) (n : ℕ) (hn : n ≤ 512) :
    blockState (iblk m c 1 t) (rowOf (iblk m c 2 t) 0) (rowOf (iblk m c 2 t) 1) (iblk m c 0 t) (kstate m c (512 * t.val)) n = kstate m c (512 * t.val + n) := by
  rw [iblk1_eq, iblk2_eq]
  exact blockState_full _ _ _ _ _ _ (xcol_iblk m c t) n hn

/-- The state carried into point `n` is the state after `512 n` steps. -/
theorem carried_eq (c : Dev nD) (n : ℕ) (hn : n ≤ 16) : carried m c n = kstate m c (512 * n) := by
  induction n with
  | zero => rfl
  | succ n ih =>
    have h : n < cfg0.N := lt_of_lt_of_eq (by omega) N_0.symm
    have e := carried_succ m c ⟨n, h⟩
    dsimp only at e
    rw [e, ih (by omega)]
    exact block_kstate m c ⟨n, h⟩ 512 le_rfl

/-! ## The arrays after the run -/

/-- The outputs: row `t` is the first half of the state after step `t`. -/
def histArr (c : Dev nD) : Buf (Elt F) ((c : Thread nD τ).loc main_v9_0) := fun j =>
  (kstate m c ((j 0).val + 1)).1 (ValueIdx.ix2 (n0 := 32) (n1 := 128) (j 1) (j 2))

theorem flushed3_eq (c : Dev nD) (t : Fin cfg0.N) : (dats m 0 c).flushed 3 t = ((cfg0.win 3).blk t).view.read (Elt F) (histArr m c) := by
  have ht : t.val < 16 := Nat.lt_of_lt_of_eq t.isLt N_0
  obtain ⟨e0, e1, e2⟩ := index3 t
  funext j
  have hj : (j 0).val < 512 := (j 0).isLt
  show (dats m 0 c).after 3 t j = histArr m c (((cfg0.win 3).blk t).view.emb j)
  rw [after_3, carried_eq m c _ (by omega)]
  show (blockState (iblk m c 1 t) (rowOf (iblk m c 2 t) 0) (rowOf (iblk m c 2 t) 1) (iblk m c 0 t) (kstate m c (512 * t.val)) ((j 0).val + 1)).1 _ = _
  rw [block_kstate m c t _ (by omega)]
  unfold histArr
  have h0 : (((cfg0.win 3).blk t).view.emb j 0).val = 512 * t.val + (j 0).val := by
    show win0_3.index t 0 * 512 + 1 * (j 0).val = _; omega
  rw [h0]
  refine congrArg (kstate m c (512 * t.val + (j 0).val + 1)).1 (funext fun a => Fin.ext ?_)
  match a with
  | ⟨0, _⟩ => show (j 1).val = win0_3.index t 1 * 32 + 1 * (j 1).val; omega
  | ⟨1, _⟩ => show (j 2).val = win0_3.index t 2 * 128 + 1 * (j 2).val; omega

theorem final3 (c : Dev nD) : (dats m 0 c).arrAt 3 cfg0.N = histArr m c :=
  (dats m 0 c).arrAt_eq_of_cover 3 (histArr m c) (fun t _ => flushed3_eq m c t) fun i => by
    have h0 : (i 0 : ℕ) < 8192 := (i 0).isLt
    have h1 : (i 1 : ℕ) < 32 := (i 1).isLt
    have h2 : (i 2 : ℕ) < 128 := (i 2).isLt
    have ht : (i 0 : ℕ) / 512 < cfg0.N := lt_of_lt_of_eq (by omega) N_0.symm
    obtain ⟨e0, e1, e2⟩ := index3 ⟨(i 0 : ℕ) / 512, ht⟩
    refine ⟨⟨(i 0 : ℕ) / 512, ht⟩, flush0_3 _, ?_⟩
    show i ∈ ((View.whole main_v9_0).slice (win0_3.rect ⟨(i 0 : ℕ) / 512, ht⟩)).set
    rw [View.set_slice_whole, Rect.mem_set_unit]
    intro a
    match a with
    | ⟨0, _⟩ => show win0_3.index ⟨(i 0 : ℕ) / 512, ht⟩ 0 * 512 ≤ (i 0 : ℕ) ∧ (i 0 : ℕ) < win0_3.index ⟨(i 0 : ℕ) / 512, ht⟩ 0 * 512 + 512; rw [e0]; dsimp only; omega
    | ⟨1, _⟩ => show win0_3.index ⟨(i 0 : ℕ) / 512, ht⟩ 1 * 32 ≤ (i 1 : ℕ) ∧ (i 1 : ℕ) < win0_3.index ⟨(i 0 : ℕ) / 512, ht⟩ 1 * 32 + 32; omega
    | ⟨2, _⟩ => show win0_3.index ⟨(i 0 : ℕ) / 512, ht⟩ 2 * 128 ≤ (i 2 : ℕ) ∧ (i 2 : ℕ) < win0_3.index ⟨(i 0 : ℕ) / 512, ht⟩ 2 * 128 + 128; omega

/-- The final state: the halves of the state after the last step. -/
def lastArr (c : Dev nD) : Buf (Elt F) ((c : Thread nD τ).loc main_v9_1) := both (kstate m c 8192)

theorem emb4 (t : Fin cfg0.N) (j : S32x256.Idx) : ((cfg0.win 4).blk t).view.emb j = j := by
  obtain ⟨e0, e1⟩ := index4 t
  funext a; apply Fin.ext
  match a with
  | ⟨0, _⟩ => show win0_4.index t 0 * 32 + 1 * (j 0).val = (j 0).val; omega
  | ⟨1, _⟩ => show win0_4.index t 1 * 256 + 1 * (j 1).val = (j 1).val; omega

theorem final4 (c : Dev nD) : (dats m 0 c).arrAt 4 cfg0.N = lastArr m c := by
  refine (dats m 0 c).arrAt_eq_of_cover 4 (lastArr m c) (fun t hf => ?_) fun i => ?_
  · have ht : t.val = 15 := by
      have := (flush0_4 t).mp hf
      have : t.val < 16 := Nat.lt_of_lt_of_eq t.isLt N_0
      omega
    funext j
    show (dats m 0 c).after 4 t j = lastArr m c (((cfg0.win 4).blk t).view.emb j)
    rw [emb4, after_4, carried_eq m c _ (by omega), ht]
    rfl
  · have h : 15 < cfg0.N := lt_of_lt_of_eq (by decide) N_0.symm
    refine ⟨⟨15, h⟩, (flush0_4 _).mpr rfl, ?_⟩
    have hm := ((cfg0.win 4).blk ⟨15, h⟩).view.emb_mem_set i
    rwa [emb4] at hm

/-- The first result: row `b`, step `t` is the first half of the state after step `t`. -/
def result1 (c : Dev nD) : Buf (Elt F) ((c : Thread nD τ).loc main_v10) := fun j =>
  (kstate m c ((j 1).val + 1)).1 (ValueIdx.ix2 (n0 := 32) (n1 := 128) (j 0) (j 2))

theorem tail_eq (c : Dev nD) : Pipeline.afterTail₀ cfgs (dats m) 0 (V0 m) [hostOps1] c main_v10 = result1 m c := by
  unfold Pipeline.afterTail₀
  simp only [List.flatten_cons, List.flatten_nil, List.append_nil]
  after_results
  have e := Pipeline.withArrays_arr spec0 launch0.win.arr_inj c (V0 m c) (fun w => (dats m 0 c).arrAt w cfg0.N) 3
  refine (congrArg (transpose S32x8192x128 [1, 0, 2] · transposes_S8192x32x128_S32x8192x128_1_0_2) (e.trans (final3 m c))).trans ?_
  funext j
  refine (transpose_apply [1, 0, 2] _ _ j (ValueIdx.ix3 (n0 := 8192) (n1 := 32) (n2 := 128) (j 1) (j 0) (j 2)) ?_).trans rfl
  intro a
  match a with
  | ⟨0, _⟩ => rfl
  | ⟨1, _⟩ => rfl
  | ⟨2, _⟩ => rfl

/-- The kernel's run: the two results at the states of the sequence, the arguments unchanged. -/
theorem run : θ_run defs (onTc (τ := τ) (main (F := F))) ⟨m, fun _ => 0, ρ⟩ fun r => ∀ c : Dev nD,
      r.2.mem ((c : Thread nD τ).loc main_v10) = result1 m c
      ∧ r.2.mem ((c : Thread nD τ).loc main_v9_1) = lastArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1.1 c).2 main_v10 (Pipeline.mem_restRefs_of main_v10 (by decide) (by decide))).trans (tail_eq m c),
      ((h.1.1 c).1 4).trans (final4 m c), h.2.1 c⟩)
    (θ_run_and (run_main m ρ) (frame m ρ))

end Cert.KernelIdeal.Lstm

end
-- ==== Proof.Math.lean ====
/- The cell on extended reals, with no array in it: the two ways of writing one step, and why they agree. -/
module

public import Idealize.ShloMosaic.PureOps.Ideal.Laws
public import Idealize.ShloMosaic.Lib.IdealHost
public import Idealize.ShloMosaic.Lib.ValueIdx
public import Idealize.ShloMosaic.Lib.Pipeline.Value

@[expose] public section

noncomputable section

namespace Cert.Lstm

open Idealize.ShloMosaic Idealize.ShloMosaic.ValueIdx
open scoped BigOperators

/-! ## Scalars -/

/-- One half, as the programs' constant denotes it. -/
def half : EReal := Ideal.ofBits .f32 0x3F000000#32

/-- The constant is the real number one half. -/
theorem half_eq : half = ((1 / 2 : ℝ) : EReal) := by
  simp [half, Ideal.ofBits, Ideal.ieee, -EReal.coe_mul]
  norm_num

/-- The value is a real number, neither infinity. -/
def IsReal (x : EReal) : Prop := ∃ r : ℝ, x = r

theorem isReal_zero : IsReal 0 := ⟨0, rfl⟩

theorem IsReal.add {x y : EReal} : IsReal x → IsReal y → IsReal (x + y)
  | ⟨r, hr⟩, ⟨s, hs⟩ => ⟨r + s, by rw [hr, hs, EReal.coe_add]⟩

theorem IsReal.mul {x y : EReal} : IsReal x → IsReal y → IsReal (x * y)
  | ⟨r, hr⟩, ⟨s, hs⟩ => ⟨r * s, by rw [hr, hs, EReal.coe_mul]⟩

theorem IsReal.sub {x y : EReal} : IsReal x → IsReal y → IsReal (x - y)
  | ⟨r, hr⟩, ⟨s, hs⟩ => ⟨r - s, by rw [hr, hs, EReal.coe_sub]⟩

theorem isReal_half : IsReal half := ⟨_, half_eq⟩

/-- The logistic function is real everywhere, also at the infinities. -/
theorem isReal_logistic (x : EReal) : IsReal (Ideal.logistic x) := by
  induction x with
  | bot => exact ⟨0, Ideal.logistic_bot⟩
  | top => exact ⟨1, Ideal.logistic_top⟩
  | coe r => exact ⟨_, Ideal.logistic_coe r⟩

/-- The hyperbolic tangent is real everywhere, also at the infinities. -/
theorem isReal_tanh (x : EReal) : IsReal (Ideal.tanh x) := by
  induction x with
  | bot => exact ⟨-1, rfl⟩
  | top => exact ⟨1, rfl⟩
  | coe r => exact ⟨_, rfl⟩

/-- Over the reals, half the tangent of half the argument, plus a half, is the logistic function. -/
theorem real_sigmoid (r : ℝ) : 1 / 2 * Real.tanh (1 / 2 * r) + 1 / 2 = (1 + Real.exp (-r))⁻¹ := by
  have e : Real.exp (-r) = Real.exp (-(1 / 2 * r)) * Real.exp (-(1 / 2 * r)) := by rw [← Real.exp_add]; ring_nf
  have p : 0 < Real.exp (1 / 2 * r) := Real.exp_pos _
  rw [Real.tanh_eq_sinh_div_cosh, Real.sinh_eq, Real.cosh_eq, e, Real.exp_neg]
  field_simp
  ring

/-- The same on all extended reals: at the infinities both sides are 0 and 1. -/
theorem sigmoid_eq (x : EReal) : half * Ideal.tanh (half * x) + half = Ideal.logistic x := by
  rw [half_eq]
  induction x with
  | bot =>
    rw [EReal.coe_mul_bot_of_pos (by norm_num), Ideal.tanh_bot, Ideal.logistic_bot, ← EReal.coe_one, ← EReal.coe_neg, ← EReal.coe_mul, ← EReal.coe_add]
    norm_num
  | top =>
    rw [EReal.coe_mul_top_of_pos (by norm_num), Ideal.tanh_top, Ideal.logistic_top, mul_one, ← EReal.coe_add]
    norm_num
  | coe r => rw [← EReal.coe_mul, Ideal.tanh_coe, Ideal.logistic_coe, ← EReal.coe_mul, ← EReal.coe_add, real_sigmoid]

/-- One step of Euler's method with step size one half, from `s` towards `t`. -/
def toward (s t : EReal) : EReal := s + half * (t - s)

/-- Between real numbers the Euler step is the mean of the two. -/
theorem mean_eq_toward {s t : EReal} : IsReal s → IsReal t → half * (s + t) = toward s t
  | ⟨a, ha⟩, ⟨b, hb⟩ => by
    unfold toward
    rw [ha, hb, half_eq, ← EReal.coe_add, ← EReal.coe_mul, ← EReal.coe_sub, ← EReal.coe_mul, ← EReal.coe_add]
    congr 1; ring

theorem IsReal.toward {s t : EReal} (hs : IsReal s) (ht : IsReal t) : IsReal (toward s t) :=
  hs.add (isReal_half.mul (ht.sub hs))

/-! ## One step for one row of the batch -/

/-- Position `o + k` among the 512 gate entries. -/
abbrev pos (o : ℕ) (ho : o + 128 ≤ 512) (k : Fin 128) : Fin 512 := ⟨o + k.val, by have := k.isLt; omega⟩

/-- A gate before its activation: the input through its weight, the state through its row of weights, the bias. -/
def gate (wi : Fin 512 → EReal) (wh : Fin 512 → Fin 128 → EReal) (b : Fin 512 → EReal) (x : EReal) (h : Fin 128 → EReal) (j : Fin 512) : EReal :=
  x * wi j + ∑ k, h k * wh j k + b j

/-- The proposed memory: what is kept of the old one plus what enters. -/
def memNew (g : Fin 512 → EReal) (c : Fin 128 → EReal) (k : Fin 128) : EReal :=
  Ideal.logistic (g (pos 128 (by decide) k)) * c k + Ideal.logistic (g (pos 0 (by decide) k)) * Ideal.tanh (g (pos 256 (by decide) k))

/-- The proposed output. -/
def outNew (g : Fin 512 → EReal) (c : Fin 128 → EReal) (k : Fin 128) : EReal :=
  Ideal.logistic (g (pos 384 (by decide) k)) * Ideal.tanh (memNew g c k)

/-- Output and memory of one row after `n` steps of inputs `x` from zero. -/
def rowState (wi : Fin 512 → EReal) (wh : Fin 512 → Fin 128 → EReal) (b : Fin 512 → EReal) (x : ℕ → EReal) :
    ℕ → (Fin 128 → EReal) × (Fin 128 → EReal)
  | 0 => (fun _ => 0, fun _ => 0)
  | n + 1 =>
    let s := rowState wi wh b x n
    let g := gate wi wh b (x n) s.1
    (fun k => toward (s.1 k) (outNew g s.2 k), fun k => toward (s.2 k) (memNew g s.2 k))

/-- A proposed output is real whatever the gates and the memory. -/
theorem isReal_outNew (g : Fin 512 → EReal) (c : Fin 128 → EReal) (k : Fin 128) : IsReal (outNew g c k) :=
  (isReal_logistic _).mul (isReal_tanh _)

/-- A proposed memory is real if the old one is, whatever the gates. -/
theorem isReal_memNew (g : Fin 512 → EReal) (c : Fin 128 → EReal) (k : Fin 128) (hc : IsReal (c k)) : IsReal (memNew g c k) :=
  ((isReal_logistic _).mul hc).add ((isReal_logistic _).mul (isReal_tanh _))

/-- The state is real after every number of steps, whatever the inputs, the weights and the bias. -/
theorem isReal_rowState (wi : Fin 512 → EReal) (wh : Fin 512 → Fin 128 → EReal) (b : Fin 512 → EReal) (x : ℕ → EReal) :
    ∀ n k, IsReal ((rowState wi wh b x n).1 k) ∧ IsReal ((rowState wi wh b x n).2 k)
  | 0, _ => ⟨isReal_zero, isReal_zero⟩
  | n + 1, k =>
    have ih := isReal_rowState wi wh b x n k
    ⟨ih.1.toward (isReal_outNew _ _ _), ih.2.toward (isReal_memNew _ _ _ ih.2)⟩

/-! ## Array reads the two programs share -/

/-- A 128-wide column block of a two-axis array, at an index. -/
theorem block_apply {n p q : ℕ} (o : ℕ) (g : (⟨2, ![n, q]⟩ : Shape).Idx → EReal) (h : (⟨2, ![n, q]⟩ : Shape).Slices ![0, o] ⟨2, ![n, p]⟩)
    (j : (⟨2, ![n, p]⟩ : Shape).Idx) (k : Fin q) (hk : k.val = o + (j 1).val) :
    extractStridedSlice ⟨2, ![n, p]⟩ ![0, o] g h j = g (ix2 (n0 := n) (n1 := q) (j 0) k) :=
  extractStridedSlice_apply _ _ _ _ _ fun a => match a with
    | ⟨0, _⟩ => (Nat.zero_add _).symm
    | ⟨1, _⟩ => hk

/-- A sum over a product's one contracted axis is a sum over that axis's positions, when the operands are read at
    (row, position) and (position, column). -/
theorem dot_sum {n K p : ℕ} (D : DotDims ⟨2, ![n, K]⟩ ⟨2, ![K, p]⟩ ⟨2, ![n, p]⟩) (hr : D.contr.rank = 1) (hs : D.contr.size ⟨0, by omega⟩ = K)
    (a : (⟨2, ![n, K]⟩ : Shape).Idx → EReal) (w : (⟨2, ![K, p]⟩ : Shape).Idx → EReal) (j : (⟨2, ![n, p]⟩ : Shape).Idx)
    (hl0 : ∀ q, (D.lhsIdx j q 0).val = (j 0).val) (hl1 : ∀ q, (D.lhsIdx j q 1).val = (q ⟨0, by omega⟩).val)
    (hw0 : ∀ q, (D.rhsIdx j q 0).val = (q ⟨0, by omega⟩).val) (hw1 : ∀ q, (D.rhsIdx j q 1).val = (j 1).val) :
    ∑ q : D.contr.Idx, a (D.lhsIdx j q) * w (D.rhsIdx j q)
      = ∑ k : Fin K, a (ix2 (n0 := n) (n1 := K) (j 0) k) * w (ix2 (n0 := K) (n1 := p) k (j 1)) := by
  rw [← Equiv.sum_comp (contrEquiv1 D K hr hs).symm]
  refine Finset.sum_congr rfl fun k _ => congrArg₂ (· * ·) (congrArg a (funext fun d => Fin.ext ?_)) (congrArg w (funext fun d => Fin.ext ?_))
  · match d with
    | ⟨0, _⟩ => exact hl0 _
    | ⟨1, _⟩ => exact (hl1 _).trans (contrEquiv1_symm_val D K hr hs k)
  · match d with
    | ⟨0, _⟩ => exact (hw0 _).trans (contrEquiv1_symm_val D K hr hs k)
    | ⟨1, _⟩ => exact hw1 _

/-! ## The two results -/

/-- Output and memory of batch row `b` after `n` steps, as a function of the five argument arrays. -/
def batchState (x : (⟨3, ![32, 8192, 1]⟩ : Shape).Idx → EReal) (wi : (⟨2, ![512, 1]⟩ : Shape).Idx → EReal) (wh : (⟨2, ![512, 128]⟩ : Shape).Idx → EReal)
    (bi bh : (⟨1, ![512]⟩ : Shape).Idx → EReal) (b : Fin 32) : ℕ → (Fin 128 → EReal) × (Fin 128 → EReal) :=
  rowState (fun j => wi (ix2 j 0)) (fun j k => wh (ix2 j k)) (fun j => bi (ix1 j) + bh (ix1 j))
    (fun n => x (ix3 b ⟨n % 8192, Nat.mod_lt _ (by decide)⟩ 0))

/-- Output and memory of a row side by side: outputs at the first 128 positions, memory at the last. -/
def sideBySide (s : (Fin 128 → EReal) × (Fin 128 → EReal)) (k : Fin 256) : EReal :=
  if h : k.val < 128 then s.1 ⟨k.val, h⟩ else s.2 ⟨k.val - 128, by have := k.isLt; omega⟩

/-- The outputs after every step, by row, step and position. -/
def outputs (x : (⟨3, ![32, 8192, 1]⟩ : Shape).Idx → EReal) (wi : (⟨2, ![512, 1]⟩ : Shape).Idx → EReal) (wh : (⟨2, ![512, 128]⟩ : Shape).Idx → EReal)
    (bi bh : (⟨1, ![512]⟩ : Shape).Idx → EReal) : (⟨3, ![32, 8192, 128]⟩ : Shape).Idx → EReal := fun j =>
  (batchState x wi wh bi bh (j 0) ((j 1).val + 1)).1 (j 2)

/-- The state after the last step, by row. -/
def final (x : (⟨3, ![32, 8192, 1]⟩ : Shape).Idx → EReal) (wi : (⟨2, ![512, 1]⟩ : Shape).Idx → EReal) (wh : (⟨2, ![512, 128]⟩ : Shape).Idx → EReal)
    (bi bh : (⟨1, ![512]⟩ : Shape).Idx → EReal) : (⟨2, ![32, 256]⟩ : Shape).Idx → EReal := fun j =>
  sideBySide (batchState x wi wh bi bh (j 0) 8192) (j 1)

end Cert.Lstm
-- ==== Proof.KernelMath.lean ====
/- The kernel's two results on extended reals: entry by entry, the mathematical recursion. -/
module

public import proofs.«01_k».proof.Proof.Value
public import proofs.«01_k».proof.Proof.Math

@[expose] public section

set_option maxRecDepth 16384

noncomputable section

namespace Cert.KernelIdeal.Lstm

open Idealize.ShloMosaic hiding ix1 ix2 ix3
open Idealize.ShloMosaic.TcCoe Idealize.ShloMosaic.ValueIdx Idealize.ShloMosaic.StableHlo
open Idealize.SL Idealize.SL.Sem
open Cert.KernelIdeal Cert.KernelIdeal.Gen
open Cert.Lstm (IsReal gate memNew outNew toward rowState batchState sideBySide pos)

/-! ## One step, entry by entry -/

/-- The kernel's sigmoid is the logistic function at every entry. -/
theorem sigm_apply (x : FVec Ideal S32x128 .f32) (j : S32x128.Idx) : sigm x j = Ideal.logistic (x j) :=
  Cert.Lstm.sigmoid_eq (x j)

/-- The kernel's gates: the same three terms as the mathematical gate, added in another order. -/
theorem gates_apply (W : FVec Ideal S128x512 .f32) (wr bs : FVec Ideal S1x512 .f32) (xc : FVec Ideal S32x1 .f32) (h : FVec Ideal S32x128 .f32)
    (b : Fin 32) (j : Fin 512) :
    gates W wr bs xc h (ix2 (n0 := 32) (n1 := 512) b j) = gate (fun j => wr (ix2 (n0 := 1) (n1 := 512) 0 j)) (fun j k => W (ix2 (n0 := 128) (n1 := 512) k j))
      (fun j => bs (ix2 (n0 := 1) (n1 := 512) 0 j)) (xc (ix2 (n0 := 32) (n1 := 1) b 0)) (fun k => h (ix2 (n0 := 32) (n1 := 128) b k)) j := by
  have hx : broadcastTo S32x512 xc broadcasts_S32x1_S32x512 (ix2 (n0 := 32) (n1 := 512) b j) = xc (ix2 (n0 := 32) (n1 := 1) b 0) :=
    broadcastTo_apply _ _ _ _ fun a => match a with
      | ⟨0, _⟩ => rfl
      | ⟨1, _⟩ => rfl
  have hrow : ∀ v : FVec Ideal S1x512 .f32, broadcastTo S32x512 v broadcasts_S1x512_S32x512 (ix2 (n0 := 32) (n1 := 512) b j) = v (ix2 (n0 := 1) (n1 := 512) 0 j) := fun v =>
    broadcastTo_apply _ _ _ _ fun a => match a with
      | ⟨0, _⟩ => rfl
      | ⟨1, _⟩ => rfl
  unfold gates gate
  rw [addf_apply, addf_apply, mulf_apply, hx, hrow, hrow]
  rw [show matmul dot_S32x128_S128x512_S32x512_1_0_0_1_n_n none h W (constant S32x512 .f32 0x00000000#32) (ix2 (n0 := 32) (n1 := 512) b j)
      = ∑ k : Fin 128, h (ix2 (n0 := 32) (n1 := 128) b k) * W (ix2 (n0 := 128) (n1 := 512) k j) from
    (Ideal.matmul_constant_zero_apply _ _ _ _ _).trans
      (Cert.Lstm.dot_sum dot_S32x128_S128x512_S32x512_1_0_0_1_n_n rfl rfl h W _ (fun _ => rfl) (fun _ => rfl) (fun _ => rfl) (fun _ => rfl))]
  rw [← add_assoc, add_comm (∑ k : Fin 128, _)]

variable (G : FVec Ideal S32x512 .f32) (c : FVec Ideal S32x128 .f32) (b : Fin 32) (k : Fin 128)

/-- The proposed memory, at an entry. -/
theorem cNew_apply : cNew G c (ix2 (n0 := 32) (n1 := 128) b k)
    = memNew (fun j => G (ix2 (n0 := 32) (n1 := 512) b j)) (fun k => c (ix2 (n0 := 32) (n1 := 128) b k)) k := by
  unfold cNew memNew
  rw [addf_apply, mulf_apply, mulf_apply, sigm_apply, sigm_apply]
  rw [Cert.Lstm.block_apply 128 G slices_S32x512_o0_128_S32x128 _ (pos 128 (by decide) k) rfl,
    Cert.Lstm.block_apply 0 G slices_S32x512_o0_0_S32x128 _ (pos 0 (by decide) k) rfl]
  refine congrArg₂ (· + ·) rfl (congrArg₂ (· * ·) rfl (congrArg Ideal.tanh ?_))
  exact Cert.Lstm.block_apply 256 G slices_S32x512_o0_256_S32x128 _ (pos 256 (by decide) k) rfl

/-- The proposed output, at an entry. -/
theorem hNew_apply : hNew G c (ix2 (n0 := 32) (n1 := 128) b k)
    = outNew (fun j => G (ix2 (n0 := 32) (n1 := 512) b j)) (fun k => c (ix2 (n0 := 32) (n1 := 128) b k)) k := by
  unfold hNew outNew
  rw [mulf_apply, sigm_apply, Cert.Lstm.block_apply 384 G slices_S32x512_o0_384_S32x128 _ (pos 384 (by decide) k) rfl]
  exact congrArg₂ (· * ·) rfl (congrArg Ideal.tanh (cNew_apply G c b k))

/-! ## All steps -/

/-- The mathematical recursion on row `b` of the kernel's operands: output and memory after each number of steps. -/
def rowSeq (W : FVec Ideal S128x512 .f32) (wr bs : FVec Ideal S1x512 .f32) (x : Vec Ideal S32x8192x1 .f32) (b : Fin 32) :
    ℕ → (Fin 128 → EReal) × (Fin 128 → EReal) :=
  rowState (fun j => wr (ix2 (n0 := 1) (n1 := 512) 0 j)) (fun j k => W (ix2 (n0 := 128) (n1 := 512) k j)) (fun j => bs (ix2 (n0 := 1) (n1 := 512) 0 j))
    (fun n => xin x n (ix2 (n0 := 32) (n1 := 1) b 0))

/-- Row `b` of the kernel's state after `n` steps is the mathematical recursion on that row. The mean the kernel takes is
    the Euler step because the state is real. -/
theorem fullState_row (W : FVec Ideal S128x512 .f32) (wr bs : FVec Ideal S1x512 .f32) (x : Vec Ideal S32x8192x1 .f32) (b : Fin 32) (n : ℕ) :
    ∀ k, (fullState W wr bs x n).1 (ix2 (n0 := 32) (n1 := 128) b k)
          = (rowSeq W wr bs x b n).1 k
        ∧ (fullState W wr bs x n).2 (ix2 (n0 := 32) (n1 := 128) b k)
          = (rowSeq W wr bs x b n).2 k := by
  induction n with
  | zero => exact fun k => ⟨Ideal.ofBits_zero_f32, Ideal.ofBits_zero_f32⟩
  | succ n ih =>
    have real : ∀ k, IsReal ((rowSeq W wr bs x b n).1 k) ∧ IsReal ((rowSeq W wr bs x b n).2 k) := Cert.Lstm.isReal_rowState _ _ _ _ n
    have hg : (fun j => gates W wr bs (xin x n) (fullState W wr bs x n).1 (ix2 (n0 := 32) (n1 := 512) b j)) = gate (fun j => wr (ix2 (n0 := 1) (n1 := 512) 0 j)) (fun j k => W (ix2 (n0 := 128) (n1 := 512) k j)) (fun j => bs (ix2 (n0 := 1) (n1 := 512) 0 j))
        (xin x n (ix2 (n0 := 32) (n1 := 1) b 0)) (rowSeq W wr bs x b n).1 := by
      funext j
      rw [gates_apply]
      exact congrArg (fun h => gate _ _ _ _ h j) (funext fun k => (ih k).1)
    intro k
    constructor
    · refine Eq.trans ?_ (Cert.Lstm.mean_eq_toward (real k).1 (Cert.Lstm.isReal_outNew _ _ k))
      exact congrArg₂ (fun a d => Cert.Lstm.half * (a + d)) (ih k).1
        ((hNew_apply _ _ b k).trans (congrArg₂ (fun g c => outNew g c k) hg (funext fun k => (ih k).2)))
    · refine Eq.trans ?_ (Cert.Lstm.mean_eq_toward (real k).2 (Cert.Lstm.isReal_memNew _ _ k (real k).2))
      exact congrArg₂ (fun a d => Cert.Lstm.half * (a + d)) (ih k).2
        ((cNew_apply _ _ b k).trans (congrArg₂ (fun g c => memNew g c k) hg (funext fun k => (ih k).2)))

/-- A state's two parts side by side, at an entry of a row that is `p`. -/
theorem both_row (s : FVec Ideal S32x128 .f32 × FVec Ideal S32x128 .f32) (p : (Fin 128 → EReal) × (Fin 128 → EReal)) (j : S32x256.Idx)
    (h : ∀ k, s.1 (ix2 (n0 := 32) (n1 := 128) (j 0) k) = p.1 k ∧ s.2 (ix2 (n0 := 32) (n1 := 128) (j 0) k) = p.2 k) : both s j = sideBySide p (j 1) := by
  unfold both sideBySide
  split
  · exact (h _).1
  · exact (h _).2

/-! ## The results -/

section
variable (m : (ℓ : Loc nD τ sig) → Buf (Elt Ideal) ℓ) (c : Dev nD)

/-- Row `b` of the kernel's state after `n` steps, as a function of the five arguments. -/
theorem kstate_row (b : Fin 32) (n : ℕ) (k : Fin 128) :
    (kstate m c n).1 (ix2 (n0 := 32) (n1 := 128) b k)
        = (batchState (m (c.tc.loc main_arg0)) (m (c.tc.loc main_arg1)) (m (c.tc.loc main_arg2)) (m (c.tc.loc main_arg3)) (m (c.tc.loc main_arg4)) b n).1 k
      ∧ (kstate m c n).2 (ix2 (n0 := 32) (n1 := 128) b k)
        = (batchState (m (c.tc.loc main_arg0)) (m (c.tc.loc main_arg1)) (m (c.tc.loc main_arg2)) (m (c.tc.loc main_arg3)) (m (c.tc.loc main_arg4)) b n).2 k := by
  have h := fullState_row (V m c main_v0) (rowOf (V m c main_v5) 0) (rowOf (V m c main_v5) 1) (m (c.tc.loc main_arg0)) b n k
  unfold rowSeq at h
  rw [show (fun j : Fin 512 => rowOf (V m c main_v5) 0 (ix2 (n0 := 1) (n1 := 512) 0 j)) = fun j => m (c.tc.loc main_arg1) (ix2 (n0 := 512) (n1 := 1) j 0) from
      funext fun j => V_row0 m c _,
    show (fun j : Fin 512 => rowOf (V m c main_v5) 1 (ix2 (n0 := 1) (n1 := 512) 0 j))
        = fun j => addf (φ := .f32) (m (c.tc.loc main_arg3)) (m (c.tc.loc main_arg4)) (ix1 (n := 512) j) from funext fun j => V_row1 m c _,
    show (fun (j : Fin 512) (k : Fin 128) => V m c main_v0 (ix2 (n0 := 128) (n1 := 512) k j)) = fun j k => m (c.tc.loc main_arg2) (ix2 (n0 := 512) (n1 := 128) j k) from
      funext fun j => funext fun k => V_W m c _] at h
  exact h

/-- The kernel's first result: the outputs after every step. -/
theorem result1_eq : result1 m c = Cert.Lstm.outputs (m (c.tc.loc main_arg0)) (m (c.tc.loc main_arg1)) (m (c.tc.loc main_arg2)) (m (c.tc.loc main_arg3)) (m (c.tc.loc main_arg4)) :=
  funext fun j => (kstate_row m c (j 0) ((j 1).val + 1) (j 2)).1

/-- The kernel's whole state after `n` steps, by row. -/
theorem both_state (n : ℕ) : both (kstate m c n) = fun j => sideBySide
    (batchState (m (c.tc.loc main_arg0)) (m (c.tc.loc main_arg1)) (m (c.tc.loc main_arg2)) (m (c.tc.loc main_arg3)) (m (c.tc.loc main_arg4)) (j 0) n) (j 1) :=
  funext fun j => both_row _ _ j (kstate_row m c (j 0) n)

/-- The kernel's second result: the state after the last step. -/
theorem lastArr_eq : lastArr m c = Cert.Lstm.final (m (c.tc.loc main_arg0)) (m (c.tc.loc main_arg1)) (m (c.tc.loc main_arg2)) (m (c.tc.loc main_arg3)) (m (c.tc.loc main_arg4)) := by
  unfold lastArr Cert.Lstm.final
  exact both_state m c _
end

end Cert.KernelIdeal.Lstm
-- ==== Proof.RefStep.lean ====
/- One trip of the reference's loop on extended reals, entry by entry. -/
module

public import proofs.«01_k».proof.Proof.Gen.ReferenceIdeal.Run
public import proofs.«01_k».proof.Proof.Math
public import Idealize.ShloMosaic.Lib.DynamicIndex
public import Idealize.ShloMosaic.Lib.Pointwise.Reshape

@[expose] public section

set_option maxRecDepth 16384

noncomputable section

namespace Cert.ReferenceIdeal.Lstm

open Idealize.ShloMosaic hiding ix0 ix1 ix2 ix3
open Idealize.ShloMosaic.TcCoe Idealize.ShloMosaic.ValueIdx Idealize.ShloMosaic.StableHlo
open Cert.ReferenceIdeal Cert.ReferenceIdeal.Gen Cert.ReferenceIdeal.Value
open Cert.Lstm (gate memNew outNew toward sideBySide pos)

variable (V : Valuation τ sig (Elt Ideal))

/-! ## What the loop carries, as arrays -/

/-- The inputs, time first. -/
abbrev xs : FVec Ideal S8192x32x1 .f32 := V (Proc.devRef .tc main_v4_0)
/-- The input weights. -/
abbrev wi : FVec Ideal S512x1 .f32 := V (Proc.devRef .tc main_v4_1)
/-- The recurrent weights. -/
abbrev wh : FVec Ideal S512x128 .f32 := V (Proc.devRef .tc main_v4_2)
/-- The bias. -/
abbrev bias : FVec Ideal S512 .f32 := V (Proc.devRef .tc main_v4_3)
/-- The step size. -/
abbrev step : FVec Ideal S_ .f32 := V (Proc.devRef .tc main_v4_4)
/-- The trip counter. -/
abbrev ctr : IVec S_ 32 := V (Proc.devRef .tc main_v4_5)
/-- The state, outputs and memory side by side. -/
abbrev state : FVec Ideal S32x256 .f32 := V (Proc.devRef .tc main_v4_6)
/-- The states written so far, time first. -/
abbrev hist : FVec Ideal S8192x32x256 .f32 := V (Proc.devRef .tc main_v4_7)

/-- Row `b` of the state: outputs and memory. -/
def row (s : FVec Ideal S32x256 .f32) (b : Fin 32) : (Fin 128 → EReal) × (Fin 128 → EReal) :=
  (fun k => s (ix2 (n0 := 32) (n1 := 256) b ⟨k.val, by have := k.isLt; omega⟩),
    fun k => s (ix2 (n0 := 32) (n1 := 256) b ⟨128 + k.val, by have := k.isLt; omega⟩))

/-- The gates of row `b` in a trip that reads inputs `n`. -/
def rowGates (n : Fin 8192) (b : Fin 32) : Fin 512 → EReal :=
  gate (fun j => wi V (ix2 (n0 := 512) (n1 := 1) j 0)) (fun j k => wh V (ix2 (n0 := 512) (n1 := 128) j k)) (fun j => bias V (ix1 (n := 512) j))
    (xs V (ix3 (n0 := 8192) (n1 := 32) (n2 := 1) n b 0)) (row (state V) b).1

/-! ## The gates -/

/-- The three starts of a trip's window into a time-first array are the counter and zeros. -/
theorem start_eq (n : ℕ) (hn : n < 8192) (hc : ctr V = fun _ => BitVec.ofNat 32 n) (a : Fin 3) :
    (((![V (Proc.devRef .tc main_v4_5), constantI S_ 32 0#32, constantI S_ 32 0#32] : Fin 3 → (⟨S_, .i32⟩ : BufTy).Contents (Elt Ideal))) a
      (Shape.Idx.first h_S_)).toInt = ((![n, 0, 0] : Fin 3 → ℕ) a : ℤ) :=
  match a with
  | ⟨0, _⟩ => (congrArg (fun f : IVec S_ 32 => (f (Shape.Idx.first h_S_)).toInt) hc).trans (toInt_ofNat_of_lt (by omega))
  | ⟨1, _⟩ => rfl
  | ⟨2, _⟩ => rfl

/-- The inputs a trip reads. -/
theorem input_apply (n : Fin 8192) (hc : ctr V = fun _ => BitVec.ofNat 32 n.val) (b : Fin 32) :
    shapeCast S32x1 (Host.dynamicSlice S1x32x1 (xs V) (fun k => (((![V (Proc.devRef .tc main_v4_5), constantI S_ 32 0#32, constantI S_ 32 0#32] :
        Fin 3 → (⟨S_, .i32⟩ : BufTy).Contents (Elt Ideal))) k (Shape.Idx.first h_S_)).toInt) sliceFits_S8192x32x1_S1x32x1) shapeCasts_S1x32x1_S32x1
      (ix2 (n0 := 32) (n1 := 1) b 0) = xs V (ix3 (n0 := 8192) (n1 := 32) (n2 := 1) n b 0) := by
  have hn : n.val < 8192 := n.isLt
  have fits : S8192x32x1.Slices ![n.val, 0, 0] S1x32x1 := ⟨rfl, fun a => match a with
    | ⟨0, _⟩ => by show n.val + 1 ≤ 8192; omega
    | ⟨1, _⟩ => by show 0 + 32 ≤ 32; omega
    | ⟨2, _⟩ => by show 0 + 1 ≤ 1; omega⟩
  rw [Host.dynamicSlice_eq_extractStridedSlice S1x32x1 (xs V) _ ![n.val, 0, 0] _ fits (start_eq V n.val hn hc)]
  refine (shapeCast_apply (s := S1x32x1) (t := S32x1) _ _ _ (ix3 (n0 := 1) (n1 := 32) (n2 := 1) 0 b 0) ?_).trans ?_
  · rw [rowMajor_val3 _ 32 1 rfl rfl, rowMajor_val2 _ 1 rfl]
    show 0 * 32 + b.val * 1 + 0 = b.val * 1 + 0
    omega
  · exact extractStridedSlice_apply _ _ _ _ _ fun a => match a with
      | ⟨0, _⟩ => rfl
      | ⟨1, _⟩ => (Nat.zero_add _).symm
      | ⟨2, _⟩ => rfl

/-- The gates a trip computes. -/
theorem gates_apply (n : Fin 8192) (hc : ctr V = fun _ => BitVec.ofNat 32 n.val) (b : Fin 32) (j : Fin 512) :
    res_main_while0b_v17 V (ix2 (n0 := 32) (n1 := 512) b j) = rowGates V n b j := by
  unfold res_main_while0b_v17 rowGates gate
  rw [addf_apply, addf_apply]
  refine congrArg₂ (· + ·) (congrArg₂ (· + ·) ?_ ?_) ?_
  · refine (Ideal.dotGeneral_apply _ _ _ _ _ _).trans ((Cert.Lstm.dot_sum dot_S32x1_S1x512_S32x512_1_0_0_1_n_n rfl rfl _ _ _
      (fun _ => rfl) (fun _ => rfl) (fun _ => rfl) (fun _ => rfl)).trans ?_)
    rw [Fin.sum_univ_one]
    exact congrArg₂ (· * ·) (input_apply V n hc b) (transpose_apply [1, 0] _ _ _ _ fun a => match a with
      | ⟨0, _⟩ => rfl
      | ⟨1, _⟩ => rfl)
  · refine (Ideal.dotGeneral_apply _ _ _ _ _ _).trans ((Cert.Lstm.dot_sum dot_S32x128_S128x512_S32x512_1_0_0_1_n_n rfl rfl _ _ _
      (fun _ => rfl) (fun _ => rfl) (fun _ => rfl) (fun _ => rfl)).trans (Finset.sum_congr rfl fun k _ => ?_))
    exact congrArg₂ (· * ·) (Cert.Lstm.block_apply 0 _ _ _ _ (Nat.zero_add _).symm) (transpose_apply [1, 0] _ _ _ _ fun a => match a with
      | ⟨0, _⟩ => rfl
      | ⟨1, _⟩ => rfl)
  · refine (broadcastInDim_apply (s := S1x512) (t := S32x512) ![0, 1] _ _ _ (ix2 (n0 := 1) (n1 := 512) 0 j) fun a => match a with
      | ⟨0, _⟩ => rfl
      | ⟨1, _⟩ => rfl).trans ?_
    exact broadcastInDim_apply (s := S512) (t := S1x512) ![1] _ _ _ (ix1 (n := 512) j) fun a => match a with
      | ⟨0, _⟩ => rfl

/-! ## The proposals -/

/-- The reference's sigmoid is the logistic function at every entry. -/
theorem sigmoid_apply (y : FVec Ideal S32x128 .f32) (j : S32x128.Idx) :
    Host.divf (broadcastInDim S32x128 ![] bcast_S_S32x128 (constant S_ .f32 0x3F800000#32))
      (addf (broadcastInDim S32x128 ![] bcast_S_S32x128 (constant S_ .f32 0x3F800000#32)) (Host.exp (Host.negf y))) j = Ideal.logistic (y j) := by
  show Ideal.div (Ideal.ofBits .f32 0x3F800000#32) (Ideal.ofBits .f32 0x3F800000#32 + Ideal.exp (-(y j))) = _
  rw [Ideal.ofBits_one_f32]
  rfl

section
variable (n : Fin 8192) (hc : ctr V = fun _ => BitVec.ofNat 32 n.val) (b : Fin 32) (k : Fin 128)
include hc

/-- A block of gates at an entry. -/
theorem gates_block (o : ℕ) (ho : o + 128 ≤ 512) (h : S32x512.Slices ![0, o] S32x128) :
    extractStridedSlice S32x128 ![0, o] (res_main_while0b_v17 V) h (ix2 (n0 := 32) (n1 := 128) b k) = rowGates V n b (pos o ho k) :=
  (Cert.Lstm.block_apply o _ h _ (pos o ho k) rfl).trans (gates_apply V n hc b _)

/-- The proposed memory a trip computes. -/
theorem mem_apply : res_main_while0b_v43 V (ix2 (n0 := 32) (n1 := 128) b k) = memNew (rowGates V n b) (row (state V) b).2 k := by
  unfold res_main_while0b_v43 memNew
  rw [addf_apply, mulf_apply, mulf_apply, sigmoid_apply, sigmoid_apply, gates_block V n hc b k 128 (by decide), gates_block V n hc b k 0 (by decide)]
  exact congrArg₂ (· + ·) (congrArg₂ (· * ·) rfl (Cert.Lstm.block_apply 128 _ _ _ _ rfl))
    (congrArg₂ (· * ·) rfl (congrArg Ideal.tanh (gates_block V n hc b k 256 (by decide) _)))

/-- The proposed output a trip computes. -/
theorem out_apply : mulf (Host.divf (broadcastInDim S32x128 ![] bcast_S_S32x128 (constant S_ .f32 0x3F800000#32))
      (addf (broadcastInDim S32x128 ![] bcast_S_S32x128 (constant S_ .f32 0x3F800000#32))
        (Host.exp (Host.negf (extractStridedSlice S32x128 ![0, 384] (res_main_while0b_v17 V) slices_S32x512_S32x128_0_384)))))
      (Host.tanh (res_main_while0b_v43 V)) (ix2 (n0 := 32) (n1 := 128) b k) = outNew (rowGates V n b) (row (state V) b).2 k := by
  unfold outNew
  rw [mulf_apply, sigmoid_apply, gates_block V n hc b k 384 (by decide)]
  exact congrArg₂ (· * ·) rfl (congrArg Ideal.tanh (mem_apply V n hc b k))

/-- The state a trip leaves: each row moves by the step size towards the proposals. -/
theorem state_apply (hs : step V ix0 = Cert.Lstm.half) (q : Fin 256) :
    res_main_while0b_v50 V (ix2 (n0 := 32) (n1 := 256) b q) = sideBySide
      (fun k => toward ((row (state V) b).1 k) (outNew (rowGates V n b) (row (state V) b).2 k),
        fun k => toward ((row (state V) b).2 k) (memNew (rowGates V n b) (row (state V) b).2 k)) q := by
  have hq : q.val < 256 := q.isLt
  unfold res_main_while0b_v50 sideBySide toward
  rw [addf_apply, mulf_apply, subf_apply]
  rw [show broadcastInDim S32x256 ![] bcast_S_S32x256 (V (Proc.devRef .tc main_v4_4)) (ix2 (n0 := 32) (n1 := 256) b q) = Cert.Lstm.half from
    (broadcastInDim_scalar_apply bcast_S_S32x256 (step V) _).trans hs]
  split
  · rename_i h
    refine congrArg₂ (· + ·) rfl (congrArg₂ (· * ·) rfl (congrArg₂ (· - ·) ?_ rfl))
    refine (concatenate_pair_apply_left (t := S32x256) (s₁ := S32x128) (s₂ := S32x128) 1 _ _ _ _ rfl (ix2 (n0 := 32) (n1 := 128) b ⟨q.val, h⟩) fun a => match a with
      | ⟨0, _⟩ => rfl
      | ⟨1, _⟩ => rfl).trans (out_apply V n hc b _)
  · rename_i h
    have e : (⟨128 + (q.val - 128), by omega⟩ : Fin 256) = q := Fin.ext (by show 128 + (q.val - 128) = q.val; omega)
    have er : (row (state V) b).2 ⟨q.val - 128, by omega⟩ = state V (ix2 (n0 := 32) (n1 := 256) b q) :=
      congrArg (fun q => state V (ix2 (n0 := 32) (n1 := 256) b q)) e
    refine congrArg₂ (· + ·) er.symm (congrArg₂ (· * ·) rfl (congrArg₂ (· - ·) ?_ er.symm))
    refine (concatenate_pair_apply_right (t := S32x256) (s₁ := S32x128) (s₂ := S32x128) 1 _ _ _ _ rfl rfl (ix2 (n0 := 32) (n1 := 128) b ⟨q.val - 128, by omega⟩)
      (fun a ha => match a with
        | ⟨0, _⟩ => rfl
        | ⟨1, _⟩ => absurd rfl ha) ?_).trans (mem_apply V n hc b _)
    show q.val - 128 + 128 = q.val
    omega
end

end Cert.ReferenceIdeal.Lstm
-- ==== Proof.RefValue.lean ====
/- The reference's two results: the loop's carried arrays after every number of trips. -/
module

public import proofs.«01_k».proof.Proof.RefStep
public import Idealize.ShloMosaic.Lib.Pointwise

@[expose] public section

set_option maxRecDepth 16384

noncomputable section

namespace Cert.ReferenceIdeal.Lstm

open Idealize.ShloMosaic hiding ix0 ix1 ix2 ix3
open Idealize.ShloMosaic.TcCoe Idealize.ShloMosaic.ValueIdx Idealize.ShloMosaic.StableHlo
open Idealize.SL.Sem
open Cert.ReferenceIdeal Cert.ReferenceIdeal.Gen Cert.ReferenceIdeal.Value
open Cert.Lstm (gate memNew outNew toward rowState batchState sideBySide pos)

/-- The first part of a row given side by side, and the second. -/
theorem row_sideBySide (s : FVec Ideal S32x256 .f32) (p : (Fin 128 → EReal) × (Fin 128 → EReal)) (b : Fin 32)
    (h : ∀ q, s (ix2 (n0 := 32) (n1 := 256) b q) = sideBySide p q) : row s b = p := by
  refine Prod.ext (funext fun k => (h _).trans ?_) (funext fun k => (h _).trans ?_)
  · exact dif_pos k.isLt
  · unfold sideBySide
    rw [dif_neg (by show ¬ 128 + k.val < 128; omega)]
    exact congrArg p.2 (Fin.ext (by show 128 + k.val - 128 = k.val; omega))

/-- Writing one state into the history leaves the other rows and puts the state at the counter's row. -/
theorem write_apply (V : Valuation τ sig (Elt Ideal)) (n : Fin 8192) (hc : ctr V = fun _ => BitVec.ofNat 32 n.val) (t : Fin 8192) (b : Fin 32) (q : Fin 256) :
    step_main_v4_7 V (ix3 (n0 := 8192) (n1 := 32) (n2 := 256) t b q)
      = if t = n then res_main_while0b_v50 V (ix2 (n0 := 32) (n1 := 256) b q) else hist V (ix3 (n0 := 8192) (n1 := 32) (n2 := 256) t b q) := by
  have hn : n.val < 8192 := n.isLt
  have hb : b.val < 32 := b.isLt
  have hq : q.val < 256 := q.isLt
  have fits : S8192x32x256.Slices ![n.val, 0, 0] S1x32x256 := ⟨rfl, fun a => match a with
    | ⟨0, _⟩ => by show n.val + 1 ≤ 8192; omega
    | ⟨1, _⟩ => by show 0 + 32 ≤ 32; omega
    | ⟨2, _⟩ => by show 0 + 256 ≤ 256; omega⟩
  unfold step_main_v4_7
  rw [id_eq, Host.dynamicUpdateSlice_eq_updateSlice (s := S8192x32x256) (u := S1x32x256) _ _ _ _ ![n.val, 0, 0]
    (fun a => by rw [start_eq V n.val hn hc a]; have := fits.2 a; omega) fits]
  rw [updateSlice_apply]
  split
  · rename_i h
    have h0 : n.val ≤ t.val ∧ t.val < n.val + 1 := h 0
    rw [if_pos (Fin.ext (by omega))]
    exact broadcastInDim_apply (s := S32x256) (t := S1x32x256) ![1, 2] _ _ _ (ix2 (n0 := 32) (n1 := 256) b q) fun a => match a with
      | ⟨0, _⟩ => rfl
      | ⟨1, _⟩ => rfl
  · rename_i h
    rw [if_neg]
    rintro rfl
    exact h fun a => match a with
      | ⟨0, _⟩ => ⟨le_refl t.val, Nat.lt_succ_self t.val⟩
      | ⟨1, _⟩ => ⟨Nat.zero_le _, by show b.val < 0 + 32; omega⟩
      | ⟨2, _⟩ => ⟨Nat.zero_le _, by show q.val < 0 + 256; omega⟩

variable (m : (ℓ : Loc nD τ sig) → Buf (Elt Ideal) ℓ) (c : Dev nD)

/-- Row `b` of the mathematical recursion after `n` steps of the launch's arguments. -/
abbrev target (b : Fin 32) (n : ℕ) : (Fin 128 → EReal) × (Fin 128 → EReal) :=
  batchState (m (c.tc.loc main_arg0)) (m (c.tc.loc main_arg1)) (m (c.tc.loc main_arg2)) (m (c.tc.loc main_arg3)) (m (c.tc.loc main_arg4)) b n

/-- What the loop's carried arrays hold after `n` trips. -/
structure Inv (n : ℕ) (V : Valuation τ sig (Elt Ideal)) : Prop where
  inputs : ∀ (t : Fin 8192) (b : Fin 32), xs V (ix3 (n0 := 8192) (n1 := 32) (n2 := 1) t b 0) = m (c.tc.loc main_arg0) (ix3 (n0 := 32) (n1 := 8192) (n2 := 1) b t 0)
  inWeights : wi V = m (c.tc.loc main_arg1)
  recWeights : wh V = m (c.tc.loc main_arg2)
  biases : bias V = addf (φ := .f32) (m (c.tc.loc main_arg3)) (m (c.tc.loc main_arg4))
  stepSize : step V ix0 = Cert.Lstm.half
  counter : ctr V = fun _ => BitVec.ofNat 32 n
  rows : ∀ b q, state V (ix2 (n0 := 32) (n1 := 256) b q) = sideBySide (target m c b n) q
  written : ∀ (t : Fin 8192) b q, t.val < n → hist V (ix3 (n0 := 8192) (n1 := 32) (n2 := 256) t b q) = sideBySide (target m c b (t.val + 1)) q

/-- On entry the loop carries the arguments, the counter and the state at zero, and has written nothing. -/
theorem inv_entry : Inv m c 0 (entryContents preI m c) where
  inputs t b := by
    have e : xs (entryContents preI m c) = transpose S8192x32x1 [1, 0, 2] (m (c.tc.loc main_arg0)) transposes_S32x8192x1_S8192x32x1_1_0_2 := by
      simp only [entryContents, afterL_cons, afterL_nil]; after_reads_simp; rfl
    rw [e]
    exact transpose_apply [1, 0, 2] _ _ _ _ fun a => match a with
      | ⟨0, _⟩ => rfl
      | ⟨1, _⟩ => rfl
      | ⟨2, _⟩ => rfl
  inWeights := by simp only [entryContents, afterL_cons, afterL_nil]; after_reads_simp; rfl
  recWeights := by simp only [entryContents, afterL_cons, afterL_nil]; after_reads_simp; rfl
  biases := by simp only [entryContents, afterL_cons, afterL_nil]; after_reads_simp; rfl
  stepSize := by
    have e : step (entryContents preI m c) = constant S_ .f32 0x3F000000#32 := by
      simp only [entryContents, afterL_cons, afterL_nil]; after_reads_simp; rfl
    rw [e]; rfl
  counter := ctr_entry m c
  rows b q := by
    have e : state (entryContents preI m c) = broadcastInDim S32x256 ![] bcast_S_S32x256 (constant S_ .f32 0x00000000#32) := by
      simp only [entryContents, afterL_cons, afterL_nil]; after_reads_simp; rfl
    rw [e, broadcastInDim_scalar_apply]
    refine Ideal.ofBits_zero_f32.trans ?_
    unfold sideBySide
    split <;> rfl
  written t b q h := absurd h (Nat.not_lt_zero _)

/-- One trip takes what holds after `n` trips to what holds after `n + 1`. -/
theorem inv_step (n : ℕ) (hn : n < 8192) (V : Valuation τ sig (Elt Ideal)) (h : Inv m c n V) : Inv m c (n + 1) (STEP V) := by
  have hg : ∀ b, rowGates V ⟨n, hn⟩ b = gate (fun j => m (c.tc.loc main_arg1) (ix2 (n0 := 512) (n1 := 1) j 0)) (fun j k => m (c.tc.loc main_arg2) (ix2 (n0 := 512) (n1 := 128) j k))
      (fun j => (addf (m (c.tc.loc main_arg3)) (m (c.tc.loc main_arg4)) : FVec Ideal S512 .f32) (ix1 (n := 512) j))
      (m (c.tc.loc main_arg0) (ix3 (n0 := 32) (n1 := 8192) (n2 := 1) b ⟨n % 8192, Nat.mod_lt _ (by decide)⟩ 0)) (target m c b n).1 := by
    intro b
    have ht : (⟨n % 8192, Nat.mod_lt _ (by decide)⟩ : Fin 8192) = ⟨n, hn⟩ := Fin.ext (Nat.mod_eq_of_lt hn)
    unfold rowGates
    rw [h.inWeights, h.recWeights, h.biases, h.inputs, row_sideBySide _ _ b (h.rows b), ht]
  have hs : ∀ b q, res_main_while0b_v50 V (ix2 (n0 := 32) (n1 := 256) b q) = sideBySide (target m c b (n + 1)) q := by
    intro b q
    rw [state_apply V ⟨n, hn⟩ h.counter b h.stepSize q, row_sideBySide _ _ b (h.rows b), hg]
    rfl
  refine ⟨?_, ?_, ?_, ?_, ?_, ?_, ?_, ?_⟩
  · intro t b; exact (congrFun (STEP_main_v4_0 V) _).trans (h.inputs t b)
  · exact (STEP_main_v4_1 V).trans h.inWeights
  · exact (STEP_main_v4_2 V).trans h.recWeights
  · exact (STEP_main_v4_3 V).trans h.biases
  · exact (congrFun (STEP_main_v4_4 V) _).trans h.stepSize
  · refine (STEP_main_v4_5 V).trans ?_
    unfold step_main_v4_5
    rw [show V (Proc.devRef .tc main_v4_5) = fun _ => BitVec.ofNat 32 n from h.counter]
    funext i
    show BitVec.ofNat 32 n + 1#32 = BitVec.ofNat 32 (n + 1)
    rw [BitVec.ofNat_add]
  · intro b q; exact (congrFun (STEP_main_v4_6 V) _).trans (hs b q)
  · intro t b q ht
    refine (congrFun (STEP_main_v4_7 V) _).trans ((write_apply V ⟨n, hn⟩ h.counter t b q).trans ?_)
    split
    · rename_i e; subst e; exact hs b q
    · rename_i e
      exact h.written t b q (Nat.lt_of_le_of_ne (Nat.le_of_lt_succ ht) fun e' => e (Fin.ext e'))

/-- What holds after every number of trips. -/
theorem inv : ∀ n, n ≤ 8192 → Inv m c n (STEP^[n] (entryContents preI m c))
  | 0, _ => inv_entry m c
  | n + 1, hn => by
    rw [Function.iterate_succ_apply']
    exact inv_step m c n hn _ (inv n (Nat.le_of_succ_le hn))

/-- From what holds after all trips: the outputs cut from the history are the mathematical ones. -/
theorem outputs_eq (V : Valuation τ sig (Elt Ideal)) (h : Inv m c 8192 V) : out_main_v6 V
    = Cert.Lstm.outputs (m (c.tc.loc main_arg0)) (m (c.tc.loc main_arg1)) (m (c.tc.loc main_arg2)) (m (c.tc.loc main_arg3)) (m (c.tc.loc main_arg4)) := by
  funext j
  have hj : (j 2).val < 128 := (j 2).isLt
  unfold out_main_v6
  refine (extractStridedSlice_apply (s := S32x8192x256) (t := S32x8192x128) _ _ _ j (ix3 (n0 := 32) (n1 := 8192) (n2 := 256) (j 0) (j 1) ⟨(j 2).val, by omega⟩) fun a => match a with
    | ⟨0, _⟩ => (Nat.zero_add _).symm
    | ⟨1, _⟩ => (Nat.zero_add _).symm
    | ⟨2, _⟩ => (Nat.zero_add _).symm).trans ?_
  refine (transpose_apply (s := S8192x32x256) (t := S32x8192x256) [1, 0, 2] _ _ _ (ix3 (n0 := 8192) (n1 := 32) (n2 := 256) (j 1) (j 0) ⟨(j 2).val, by omega⟩) fun a => match a with
    | ⟨0, _⟩ => rfl
    | ⟨1, _⟩ => rfl
    | ⟨2, _⟩ => rfl).trans ?_
  exact (h.written (j 1) (j 0) _ (j 1).isLt).trans (dif_pos hj)

/-- From what holds after all trips: the state is the mathematical one. -/
theorem final_eq (V : Valuation τ sig (Elt Ideal)) (h : Inv m c 8192 V) : state V
    = Cert.Lstm.final (m (c.tc.loc main_arg0)) (m (c.tc.loc main_arg1)) (m (c.tc.loc main_arg2)) (m (c.tc.loc main_arg3)) (m (c.tc.loc main_arg4)) := by
  funext j
  refine (congrArg (state V) (ValueIdx.eq_ix2 j)).trans (h.rows (j 0) (j 1))

/-- The reference's run: its two results are the mathematical ones, its arguments are unchanged. -/
theorem run (ρ : Dev nD → PrngReg) : θ_run (defs (F := Ideal)) (onTc (τ := τ) (main (F := Ideal))) ⟨m, fun _ => 0, ρ⟩ fun r => ∀ c : Dev nD,
      r.2.mem (c.tc.loc main_v6) = Cert.Lstm.outputs (m (c.tc.loc main_arg0)) (m (c.tc.loc main_arg1)) (m (c.tc.loc main_arg2)) (m (c.tc.loc main_arg3)) (m (c.tc.loc main_arg4))
      ∧ r.2.mem (c.tc.loc main_v4_6) = Cert.Lstm.final (m (c.tc.loc main_arg0)) (m (c.tc.loc main_arg1)) (m (c.tc.loc main_arg2)) (m (c.tc.loc main_arg3)) (m (c.tc.loc main_arg4))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun _ h c => ⟨(h c).1.trans (outputs_eq m c _ (inv m c _ (le_refl _))),
      (h c).2.1.trans (final_eq m c _ (inv m c _ (le_refl _))), (h c).2.2⟩)
    (Cert.ReferenceIdeal.Value.run m ρ)

end Cert.ReferenceIdeal.Lstm
-- ==== Proof.SameText.lean ====
/- The frame of the kernel at the floats as bit patterns. The kernel and the idealized kernel are one program text, and the frame of
   the idealized kernel is proved for every model of the floats: here the two programs are shown equal, so that the frame of
   the one is the frame of the other. -/
module

public import proofs.«01_k».proof.Defs
public import proofs.«01_k».proof.Proof.Gen.Kernel
public import proofs.«01_k».proof.Proof.Gen.KernelIdeal
public import proofs.«01_k».proof.Proof.Run

@[expose] public section

set_option maxRecDepth 16384

noncomputable section

namespace Cert.Kernel.Lstm

open Idealize.ShloMosaic Idealize.SL.Sem

variable {F : FTy → Type} [FloatOps F]

/-- The bodies of the two programs' launches are the same: label by label, at each grid point and staging slots. -/
theorem defs₀_eq : @Cert.Kernel.defs₀ F _ Cert.Kernel.Gen.facts = @Cert.KernelIdeal.defs₀ F _ Cert.KernelIdeal.Gen.facts := by
  refine congrArg Defs.onTc (funext fun l => funext fun a => ?_)
  match l, a with
  | 0, (_, _) => rfl
  | ⟨_ + 1, h⟩, _ => exact absurd h (Nat.not_lt.2 (Nat.le_add_left _ _))

/-- So the launches' tables, in which the pipeline runs those bodies, are the same. -/
theorem defs_eq : @Cert.Kernel.defs F _ Cert.Kernel.Gen.facts = @Cert.KernelIdeal.defs F _ Cert.KernelIdeal.Gen.facts :=
  congrArg (Pipeline.defs (@Cert.KernelIdeal.pcfgs F Cert.KernelIdeal.Gen.facts)) defs₀_eq

/-- And so are the main functions. -/
theorem main_eq : @Cert.Kernel.main F _ Cert.Kernel.Gen.facts = @Cert.KernelIdeal.main F _ Cert.KernelIdeal.Gen.facts := rfl

/-- The kernel's frame: what holds of every run of the idealized kernel holds of every run of the kernel. -/
theorem frame : @Cert.quiescent_Kernel Cert.Kernel.Gen.facts := by
  intro m ρ _
  have h := Cert.KernelIdeal.Lstm.frame (F := Bits) m ρ
  rw [← defs_eq (F := Bits), ← main_eq (F := Bits)] at h
  exact h

end Cert.Kernel.Lstm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelMath
public import proofs.«01_k».proof.Proof.RefValue
public import proofs.«01_k».proof.Proof.SameText
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments unchanged, and has no semaphore. -/
theorem reference_frame : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- From the same arguments the kernel and the reference both end with the outputs and the last state of the mathematical
    recursion. -/
theorem same_results : Cert.algebraic_KernelIdeal_ReferenceIdeal := by
  intro m ρ m' ρ' _ hargs
  refine ⟨fun c => Cert.KernelIdeal.Lstm.result1 m c, fun c => Cert.KernelIdeal.Lstm.lastArr m c, Cert.KernelIdeal.Lstm.run m ρ, ?_⟩
  refine (θ_run _ _ _).mono (fun _ h c => ⟨(h c).1.trans ?_, (h c).2.1.trans ?_, (h c).2.2⟩) (Cert.ReferenceIdeal.Lstm.run m' ρ')
  · rw [(hargs c).1, (hargs c).2.1, (hargs c).2.2.1, (hargs c).2.2.2.1, (hargs c).2.2.2.2]
    exact (Cert.KernelIdeal.Lstm.result1_eq m c).symm
  · rw [(hargs c).1, (hargs c).2.1, (hargs c).2.2.1, (hargs c).2.2.2.1, (hargs c).2.2.2.2]
    exact (Cert.KernelIdeal.Lstm.lastArr_eq m c).symm

/-- Everything the certificate claims. -/
theorem claim : Cert.Claim := ⟨Cert.Kernel.Gen.facts, Cert.KernelIdeal.Gen.facts, Cert.ReferenceIdeal.Gen.facts,
  Cert.Kernel.Lstm.frame, fun m ρ _ => Cert.KernelIdeal.Lstm.frame m ρ, reference_frame, trivial, same_results⟩

end Cert.Proof

end
